-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Mlp (m : (ℓ : Loc Cert.Mlp.nD Cert.Mlp.τ Cert.Mlp.sig) → Buf (Elt Bits) ℓ) : Prop :=
  True

def Pre_MlpIdeal (m : (ℓ : Loc Cert.MlpIdeal.nD Cert.MlpIdeal.τ Cert.MlpIdeal.sig) → Buf (Elt Ideal) ℓ) : Prop :=
  True

def Pre_MlpRefIdeal (m : (ℓ : Loc Cert.MlpRefIdeal.nD Cert.MlpRefIdeal.τ Cert.MlpRefIdeal.sig) → Buf (Elt Ideal) ℓ) : Prop :=
  True

def Pre_Adaln (m : (ℓ : Loc Cert.Adaln.nD Cert.Adaln.τ Cert.Adaln.sig) → Buf (Elt Bits) ℓ) : Prop :=
  True

def Pre_AdalnIdeal (m : (ℓ : Loc Cert.AdalnIdeal.nD Cert.AdalnIdeal.τ Cert.AdalnIdeal.sig) → Buf (Elt Ideal) ℓ) : Prop :=
  True

def Pre_AdalnIdeal_finite [hPre_finite : Cert.Pre_finite.Facts] (m : (ℓ : Loc Cert.AdalnIdeal.nD Cert.AdalnIdeal.τ Cert.AdalnIdeal.sig) → Buf (Elt Ideal) ℓ) : Prop :=
  ∀ c : Dev Cert.AdalnIdeal.nD,
    (Cert.Pre_finite.fn (F := Ideal) (m ((c.tc : Thread Cert.AdalnIdeal.nD Cert.AdalnIdeal.τ).loc Cert.AdalnIdeal.main_arg0)) (m ((c.tc : Thread Cert.AdalnIdeal.nD Cert.AdalnIdeal.τ).loc Cert.AdalnIdeal.main_arg1)) (m ((c.tc : Thread Cert.AdalnIdeal.nD Cert.AdalnIdeal.τ).loc Cert.AdalnIdeal.main_arg2))).1 = (fun _ => 1#1)
    ∧ (Cert.Pre_finite.fn (F := Ideal) (m ((c.tc : Thread Cert.AdalnIdeal.nD Cert.AdalnIdeal.τ).loc Cert.AdalnIdeal.main_arg0)) (m ((c.tc : Thread Cert.AdalnIdeal.nD Cert.AdalnIdeal.τ).loc Cert.AdalnIdeal.main_arg1)) (m ((c.tc : Thread Cert.AdalnIdeal.nD Cert.AdalnIdeal.τ).loc Cert.AdalnIdeal.main_arg2))).2 = (fun _ => 1#1)

def Pre_AdalnRefIdeal (m : (ℓ : Loc Cert.AdalnRefIdeal.nD Cert.AdalnRefIdeal.τ Cert.AdalnRefIdeal.sig) → Buf (Elt Ideal) ℓ) : Prop :=
  True

def Pre_AdalnRefIdeal_finite [hPre_finite : Cert.Pre_finite.Facts] (m : (ℓ : Loc Cert.AdalnRefIdeal.nD Cert.AdalnRefIdeal.τ Cert.AdalnRefIdeal.sig) → Buf (Elt Ideal) ℓ) : Prop :=
  ∀ c : Dev Cert.AdalnRefIdeal.nD,
    (Cert.Pre_finite.fn (F := Ideal) (m ((c.tc : Thread Cert.AdalnRefIdeal.nD Cert.AdalnRefIdeal.τ).loc Cert.AdalnRefIdeal.main_arg0)) (m ((c.tc : Thread Cert.AdalnRefIdeal.nD Cert.AdalnRefIdeal.τ).loc Cert.AdalnRefIdeal.main_arg1)) (m ((c.tc : Thread Cert.AdalnRefIdeal.nD Cert.AdalnRefIdeal.τ).loc Cert.AdalnRefIdeal.main_arg2))).1 = (fun _ => 1#1)
    ∧ (Cert.Pre_finite.fn (F := Ideal) (m ((c.tc : Thread Cert.AdalnRefIdeal.nD Cert.AdalnRefIdeal.τ).loc Cert.AdalnRefIdeal.main_arg0)) (m ((c.tc : Thread Cert.AdalnRefIdeal.nD Cert.AdalnRefIdeal.τ).loc Cert.AdalnRefIdeal.main_arg1)) (m ((c.tc : Thread Cert.AdalnRefIdeal.nD Cert.AdalnRefIdeal.τ).loc Cert.AdalnRefIdeal.main_arg2))).2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13))
      ∧ r.2.sem = fun _ => 0)

def quiescent_Mlp [hMlp : Cert.Mlp.Facts] : Prop :=
  ∀ (m : (ℓ : Loc Cert.Mlp.nD Cert.Mlp.τ Cert.Mlp.sig) → Buf (Elt Bits) ℓ) (g : Dev Cert.Mlp.nD → PrngReg), Pre_Mlp m →
    θ_run (Cert.Mlp.defs (F := Bits)) (onTc (τ := Cert.Mlp.τ) (Cert.Mlp.main (F := Bits))) ⟨m, fun _ => 0, g⟩ (fun r => (∀ c : Dev Cert.Mlp.nD,
      r.2.mem ((c.tc : Thread Cert.Mlp.nD Cert.Mlp.τ).loc Cert.Mlp.main_arg0) = m ((c.tc : Thread Cert.Mlp.nD Cert.Mlp.τ).loc Cert.Mlp.main_arg0)
      ∧ r.2.mem ((c.tc : Thread Cert.Mlp.nD Cert.Mlp.τ).loc Cert.Mlp.main_arg1) = m ((c.tc : Thread Cert.Mlp.nD Cert.Mlp.τ).loc Cert.Mlp.main_arg1)
      ∧ r.2.mem ((c.tc : Thread Cert.Mlp.nD Cert.Mlp.τ).loc Cert.Mlp.main_arg2) = m ((c.tc : Thread Cert.Mlp.nD Cert.Mlp.τ).loc Cert.Mlp.main_arg2)
      ∧ r.2.mem ((c.tc : Thread Cert.Mlp.nD Cert.Mlp.τ).loc Cert.Mlp.main_arg3) = m ((c.tc : Thread Cert.Mlp.nD Cert.Mlp.τ).loc Cert.Mlp.main_arg3)
      ∧ r.2.mem ((c.tc : Thread Cert.Mlp.nD Cert.Mlp.τ).loc Cert.Mlp.main_arg4) = m ((c.tc : Thread Cert.Mlp.nD Cert.Mlp.τ).loc Cert.Mlp.main_arg4)
      ∧ r.2.mem ((c.tc : Thread Cert.Mlp.nD Cert.Mlp.τ).loc Cert.Mlp.main_arg5) = m ((c.tc : Thread Cert.Mlp.nD Cert.Mlp.τ).loc Cert.Mlp.main_arg5))
      ∧ r.2.sem = fun _ => 0)

def quiescent_MlpIdeal [hMlpIdeal : Cert.MlpIdeal.Facts] : Prop :=
  ∀ (m : (ℓ : Loc Cert.MlpIdeal.nD Cert.MlpIdeal.τ Cert.MlpIdeal.sig) → Buf (Elt Ideal) ℓ) (g : Dev Cert.MlpIdeal.nD → PrngReg), Pre_MlpIdeal m →
    θ_run (Cert.MlpIdeal.defs (F := Ideal)) (onTc (τ := Cert.MlpIdeal.τ) (Cert.MlpIdeal.main (F := Ideal))) ⟨m, fun _ => 0, g⟩ (fun r => (∀ c : Dev Cert.MlpIdeal.nD,
      r.2.mem ((c.tc : Thread Cert.MlpIdeal.nD Cert.MlpIdeal.τ).loc Cert.MlpIdeal.main_arg0) = m ((c.tc : Thread Cert.MlpIdeal.nD Cert.MlpIdeal.τ).loc Cert.MlpIdeal.main_arg0)
      ∧ r.2.mem ((c.tc : Thread Cert.MlpIdeal.nD Cert.MlpIdeal.τ).loc Cert.MlpIdeal.main_arg1) = m ((c.tc : Thread Cert.MlpIdeal.nD Cert.MlpIdeal.τ).loc Cert.MlpIdeal.main_arg1)
      ∧ r.2.mem ((c.tc : Thread Cert.MlpIdeal.nD Cert.MlpIdeal.τ).loc Cert.MlpIdeal.main_arg2) = m ((c.tc : Thread Cert.MlpIdeal.nD Cert.MlpIdeal.τ).loc Cert.MlpIdeal.main_arg2)
      ∧ r.2.mem ((c.tc : Thread Cert.MlpIdeal.nD Cert.MlpIdeal.τ).loc Cert.MlpIdeal.main_arg3) = m ((c.tc : Thread Cert.MlpIdeal.nD Cert.MlpIdeal.τ).loc Cert.MlpIdeal.main_arg3)
      ∧ r.2.mem ((c.tc : Thread Cert.MlpIdeal.nD Cert.MlpIdeal.τ).loc Cert.MlpIdeal.main_arg4) = m ((c.tc : Thread Cert.MlpIdeal.nD Cert.MlpIdeal.τ).loc Cert.MlpIdeal.main_arg4)
      ∧ r.2.mem ((c.tc : Thread Cert.MlpIdeal.nD Cert.MlpIdeal.τ).loc Cert.MlpIdeal.main_arg5) = m ((c.tc : Thread Cert.MlpIdeal.nD Cert.MlpIdeal.τ).loc Cert.MlpIdeal.main_arg5))
      ∧ r.2.sem = fun _ => 0)

def quiescent_MlpRefIdeal [hMlpRefIdeal : Cert.MlpRefIdeal.Facts] : Prop :=
  ∀ (m : (ℓ : Loc Cert.MlpRefIdeal.nD Cert.MlpRefIdeal.τ Cert.MlpRefIdeal.sig) → Buf (Elt Ideal) ℓ) (g : Dev Cert.MlpRefIdeal.nD → PrngReg), Pre_MlpRefIdeal m →
    θ_run (Cert.MlpRefIdeal.defs (F := Ideal)) (onTc (τ := Cert.MlpRefIdeal.τ) (Cert.MlpRefIdeal.main (F := Ideal))) ⟨m, fun _ => 0, g⟩ (fun r => (∀ c : Dev Cert.MlpRefIdeal.nD,
      r.2.mem ((c.tc : Thread Cert.MlpRefIdeal.nD Cert.MlpRefIdeal.τ).loc Cert.MlpRefIdeal.main_arg0) = m ((c.tc : Thread Cert.MlpRefIdeal.nD Cert.MlpRefIdeal.τ).loc Cert.MlpRefIdeal.main_arg0)
      ∧ r.2.mem ((c.tc : Thread Cert.MlpRefIdeal.nD Cert.MlpRefIdeal.τ).loc Cert.MlpRefIdeal.main_arg1) = m ((c.tc : Thread Cert.MlpRefIdeal.nD Cert.MlpRefIdeal.τ).loc Cert.MlpRefIdeal.main_arg1)
      ∧ r.2.mem ((c.tc : Thread Cert.MlpRefIdeal.nD Cert.MlpRefIdeal.τ).loc Cert.MlpRefIdeal.main_arg2) = m ((c.tc : Thread Cert.MlpRefIdeal.nD Cert.MlpRefIdeal.τ).loc Cert.MlpRefIdeal.main_arg2)
      ∧ r.2.mem ((c.tc : Thread Cert.MlpRefIdeal.nD Cert.MlpRefIdeal.τ).loc Cert.MlpRefIdeal.main_arg3) = m ((c.tc : Thread Cert.MlpRefIdeal.nD Cert.MlpRefIdeal.τ).loc Cert.MlpRefIdeal.main_arg3)
      ∧ r.2.mem ((c.tc : Thread Cert.MlpRefIdeal.nD Cert.MlpRefIdeal.τ).loc Cert.MlpRefIdeal.main_arg4) = m ((c.tc : Thread Cert.MlpRefIdeal.nD Cert.MlpRefIdeal.τ).loc Cert.MlpRefIdeal.main_arg4)
      ∧ r.2.mem ((c.tc : Thread Cert.MlpRefIdeal.nD Cert.MlpRefIdeal.τ).loc Cert.MlpRefIdeal.main_arg5) = m ((c.tc : Thread Cert.MlpRefIdeal.nD Cert.MlpRefIdeal.τ).loc Cert.MlpRefIdeal.main_arg5))
      ∧ r.2.sem = fun _ => 0)

def quiescent_Adaln [hAdaln : Cert.Adaln.Facts] : Prop :=
  ∀ (m : (ℓ : Loc Cert.Adaln.nD Cert.Adaln.τ Cert.Adaln.sig) → Buf (Elt Bits) ℓ) (g : Dev Cert.Adaln.nD → PrngReg), Pre_Adaln m →
    θ_run (Cert.Adaln.defs (F := Bits)) (onTc (τ := Cert.Adaln.τ) (Cert.Adaln.main (F := Bits))) ⟨m, fun _ => 0, g⟩ (fun r => (∀ c : Dev Cert.Adaln.nD,
      r.2.mem ((c.tc : Thread Cert.Adaln.nD Cert.Adaln.τ).loc Cert.Adaln.main_arg0) = m ((c.tc : Thread Cert.Adaln.nD Cert.Adaln.τ).loc Cert.Adaln.main_arg0)
      ∧ r.2.mem ((c.tc : Thread Cert.Adaln.nD Cert.Adaln.τ).loc Cert.Adaln.main_arg1) = m ((c.tc : Thread Cert.Adaln.nD Cert.Adaln.τ).loc Cert.Adaln.main_arg1)
      ∧ r.2.mem ((c.tc : Thread Cert.Adaln.nD Cert.Adaln.τ).loc Cert.Adaln.main_arg2) = m ((c.tc : Thread Cert.Adaln.nD Cert.Adaln.τ).loc Cert.Adaln.main_arg2))
      ∧ r.2.sem = fun _ => 0)

def quiescent_AdalnIdeal [hAdalnIdeal : Cert.AdalnIdeal.Facts] : Prop :=
  ∀ (m : (ℓ : Loc Cert.AdalnIdeal.nD Cert.AdalnIdeal.τ Cert.AdalnIdeal.sig) → Buf (Elt Ideal) ℓ) (g : Dev Cert.AdalnIdeal.nD → PrngReg), Pre_AdalnIdeal m →
    θ_run (Cert.AdalnIdeal.defs (F := Ideal)) (onTc (τ := Cert.AdalnIdeal.τ) (Cert.AdalnIdeal.main (F := Ideal))) ⟨m, fun _ => 0, g⟩ (fun r => (∀ c : Dev Cert.AdalnIdeal.nD,
      r.2.mem ((c.tc : Thread Cert.AdalnIdeal.nD Cert.AdalnIdeal.τ).loc Cert.AdalnIdeal.main_arg0) = m ((c.tc : Thread Cert.AdalnIdeal.nD Cert.AdalnIdeal.τ).loc Cert.AdalnIdeal.main_arg0)
      ∧ r.2.mem ((c.tc : Thread Cert.AdalnIdeal.nD Cert.AdalnIdeal.τ).loc Cert.AdalnIdeal.main_arg1) = m ((c.tc : Thread Cert.AdalnIdeal.nD Cert.AdalnIdeal.τ).loc Cert.AdalnIdeal.main_arg1)
      ∧ r.2.mem ((c.tc : Thread Cert.AdalnIdeal.nD Cert.AdalnIdeal.τ).loc Cert.AdalnIdeal.main_arg2) = m ((c.tc : Thread Cert.AdalnIdeal.nD Cert.AdalnIdeal.τ).loc Cert.AdalnIdeal.main_arg2))
      ∧ r.2.sem = fun _ => 0)

def quiescent_AdalnIdeal_pre_finite [hAdalnIdeal : Cert.AdalnIdeal.Facts] [hPre_finite : Cert.Pre_finite.Facts] : Prop :=
  ∀ (m : (ℓ : Loc Cert.AdalnIdeal.nD Cert.AdalnIdeal.τ Cert.AdalnIdeal.sig) → Buf (Elt Ideal) ℓ) (g : Dev Cert.AdalnIdeal.nD → PrngReg), Pre_AdalnIdeal_finite m →
    θ_run (Cert.AdalnIdeal.defs (F := Ideal)) (onTc (τ := Cert.AdalnIdeal.τ) (Cert.AdalnIdeal.main (F := Ideal))) ⟨m, fun _ => 0, g⟩ (fun r => (∀ c : Dev Cert.AdalnIdeal.nD,
      r.2.mem ((c.tc : Thread Cert.AdalnIdeal.nD Cert.AdalnIdeal.τ).loc Cert.AdalnIdeal.main_arg0) = m ((c.tc : Thread Cert.AdalnIdeal.nD Cert.AdalnIdeal.τ).loc Cert.AdalnIdeal.main_arg0)
      ∧ r.2.mem ((c.tc : Thread Cert.AdalnIdeal.nD Cert.AdalnIdeal.τ).loc Cert.AdalnIdeal.main_arg1) = m ((c.tc : Thread Cert.AdalnIdeal.nD Cert.AdalnIdeal.τ).loc Cert.AdalnIdeal.main_arg1)
      ∧ r.2.mem ((c.tc : Thread Cert.AdalnIdeal.nD Cert.AdalnIdeal.τ).loc Cert.AdalnIdeal.main_arg2) = m ((c.tc : Thread Cert.AdalnIdeal.nD Cert.AdalnIdeal.τ).loc Cert.AdalnIdeal.main_arg2))
      ∧ r.2.sem = fun _ => 0)

def quiescent_AdalnRefIdeal [hAdalnRefIdeal : Cert.AdalnRefIdeal.Facts] : Prop :=
  ∀ (m : (ℓ : Loc Cert.AdalnRefIdeal.nD Cert.AdalnRefIdeal.τ Cert.AdalnRefIdeal.sig) → Buf (Elt Ideal) ℓ) (g : Dev Cert.AdalnRefIdeal.nD → PrngReg), Pre_AdalnRefIdeal m →
    θ_run (Cert.AdalnRefIdeal.defs (F := Ideal)) (onTc (τ := Cert.AdalnRefIdeal.τ) (Cert.AdalnRefIdeal.main (F := Ideal))) ⟨m, fun _ => 0, g⟩ (fun r => (∀ c : Dev Cert.AdalnRefIdeal.nD,
      r.2.mem ((c.tc : Thread Cert.AdalnRefIdeal.nD Cert.AdalnRefIdeal.τ).loc Cert.AdalnRefIdeal.main_arg0) = m ((c.tc : Thread Cert.AdalnRefIdeal.nD Cert.AdalnRefIdeal.τ).loc Cert.AdalnRefIdeal.main_arg0)
      ∧ r.2.mem ((c.tc : Thread Cert.AdalnRefIdeal.nD Cert.AdalnRefIdeal.τ).loc Cert.AdalnRefIdeal.main_arg1) = m ((c.tc : Thread Cert.AdalnRefIdeal.nD Cert.AdalnRefIdeal.τ).loc Cert.AdalnRefIdeal.main_arg1)
      ∧ r.2.mem ((c.tc : Thread Cert.AdalnRefIdeal.nD Cert.AdalnRefIdeal.τ).loc Cert.AdalnRefIdeal.main_arg2) = m ((c.tc : Thread Cert.AdalnRefIdeal.nD Cert.AdalnRefIdeal.τ).loc Cert.AdalnRefIdeal.main_arg2))
      ∧ r.2.sem = fun _ => 0)

def quiescent_AdalnRefIdeal_pre_finite [hAdalnRefIdeal : Cert.AdalnRefIdeal.Facts] [hPre_finite : Cert.Pre_finite.Facts] : Prop :=
  ∀ (m : (ℓ : Loc Cert.AdalnRefIdeal.nD Cert.AdalnRefIdeal.τ Cert.AdalnRefIdeal.sig) → Buf (Elt Ideal) ℓ) (g : Dev Cert.AdalnRefIdeal.nD → PrngReg), Pre_AdalnRefIdeal_finite m →
    θ_run (Cert.AdalnRefIdeal.defs (F := Ideal)) (onTc (τ := Cert.AdalnRefIdeal.τ) (Cert.AdalnRefIdeal.main (F := Ideal))) ⟨m, fun _ => 0, g⟩ (fun r => (∀ c : Dev Cert.AdalnRefIdeal.nD,
      r.2.mem ((c.tc : Thread Cert.AdalnRefIdeal.nD Cert.AdalnRefIdeal.τ).loc Cert.AdalnRefIdeal.main_arg0) = m ((c.tc : Thread Cert.AdalnRefIdeal.nD Cert.AdalnRefIdeal.τ).loc Cert.AdalnRefIdeal.main_arg0)
      ∧ r.2.mem ((c.tc : Thread Cert.AdalnRefIdeal.nD Cert.AdalnRefIdeal.τ).loc Cert.AdalnRefIdeal.main_arg1) = m ((c.tc : Thread Cert.AdalnRefIdeal.nD Cert.AdalnRefIdeal.τ).loc Cert.AdalnRefIdeal.main_arg1)
      ∧ r.2.mem ((c.tc : Thread Cert.AdalnRefIdeal.nD Cert.AdalnRefIdeal.τ).loc Cert.AdalnRefIdeal.main_arg2) = m ((c.tc : Thread Cert.AdalnRefIdeal.nD Cert.AdalnRefIdeal.τ).loc Cert.AdalnRefIdeal.main_arg2))
      ∧ r.2.sem = fun _ => 0)

def preserves_Kernel_KernelIdeal : Prop :=
  True

def algebraic_KernelIdeal_ReferenceIdeal_on_weights [hKernelIdeal : Cert.KernelIdeal.Facts] [hReferenceIdeal : Cert.ReferenceIdeal.Facts] [hOn_weights : Cert.On_weights.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)) →
    ∃ (v0 : (c : Dev Cert.KernelIdeal.nD) → Buf (Elt Ideal) ((c.tc : Thread Cert.KernelIdeal.nD Cert.KernelIdeal.τ).loc Cert.KernelIdeal.main_v34_0)) (v1 : (c : Dev Cert.KernelIdeal.nD) → Buf (Elt Ideal) ((c.tc : Thread Cert.KernelIdeal.nD Cert.KernelIdeal.τ).loc Cert.KernelIdeal.main_v34_1)) (v2 : (c : Dev Cert.KernelIdeal.nD) → Buf (Elt Ideal) ((c.tc : Thread Cert.KernelIdeal.nD Cert.KernelIdeal.τ).loc Cert.KernelIdeal.main_v34_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          (∀ i : (⟨3, ![16, 2048, 1024]⟩ : Shape).Idx, (Cert.On_weights.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13))).1 i = 1#1 → r.2.mem ((c.tc : Thread Cert.KernelIdeal.nD Cert.KernelIdeal.τ).loc Cert.KernelIdeal.main_v34_0) i = v0 c i)
          ∧ (∀ i : (⟨2, ![1024, 4096]⟩ : Shape).Idx, (Cert.On_weights.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13))).2.1 i = 1#1 → r.2.mem ((c.tc : Thread Cert.KernelIdeal.nD Cert.KernelIdeal.τ).loc Cert.KernelIdeal.main_v34_1) i = v1 c i)
          ∧ (∀ i : (⟨2, ![4096, 1024]⟩ : Shape).Idx, (Cert.On_weights.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13))).2.2 i = 1#1 → r.2.mem ((c.tc : Thread Cert.KernelIdeal.nD Cert.KernelIdeal.τ).loc Cert.KernelIdeal.main_v34_2) i = v2 c i)
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          (∀ i : (⟨3, ![16, 2048, 1024]⟩ : Shape).Idx, (Cert.On_weights.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13))).1 i = 1#1 → r.2.mem ((c.tc : Thread Cert.ReferenceIdeal.nD Cert.ReferenceIdeal.τ).loc Cert.ReferenceIdeal.main_v251) i = v0 c i)
          ∧ (∀ i : (⟨2, ![1024, 4096]⟩ : Shape).Idx, (Cert.On_weights.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13))).2.1 i = 1#1 → r.2.mem ((c.tc : Thread Cert.ReferenceIdeal.nD Cert.ReferenceIdeal.τ).loc Cert.ReferenceIdeal.main_v253) i = v1 c i)
          ∧ (∀ i : (⟨2, ![4096, 1024]⟩ : Shape).Idx, (Cert.On_weights.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13))).2.2 i = 1#1 → r.2.mem ((c.tc : Thread Cert.ReferenceIdeal.nD Cert.ReferenceIdeal.τ).loc Cert.ReferenceIdeal.main_v255) i = v2 c i)
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13))

def preserves_Mlp_MlpIdeal : Prop :=
  True

def algebraic_MlpIdeal_MlpRefIdeal [hMlpIdeal : Cert.MlpIdeal.Facts] [hMlpRefIdeal : Cert.MlpRefIdeal.Facts] : Prop :=
  ∀ (m : (ℓ : Loc Cert.MlpIdeal.nD Cert.MlpIdeal.τ Cert.MlpIdeal.sig) → Buf (Elt Ideal) ℓ) (g : Dev Cert.MlpIdeal.nD → PrngReg)
    (m' : (ℓ : Loc Cert.MlpRefIdeal.nD Cert.MlpRefIdeal.τ Cert.MlpRefIdeal.sig) → Buf (Elt Ideal) ℓ) (g' : Dev Cert.MlpRefIdeal.nD → PrngReg), Pre_MlpIdeal m →
    (∀ c : Dev Cert.MlpIdeal.nD,
      m' ((c.tc : Thread Cert.MlpRefIdeal.nD Cert.MlpRefIdeal.τ).loc Cert.MlpRefIdeal.main_arg0) = m ((c.tc : Thread Cert.MlpIdeal.nD Cert.MlpIdeal.τ).loc Cert.MlpIdeal.main_arg0)
      ∧ m' ((c.tc : Thread Cert.MlpRefIdeal.nD Cert.MlpRefIdeal.τ).loc Cert.MlpRefIdeal.main_arg1) = m ((c.tc : Thread Cert.MlpIdeal.nD Cert.MlpIdeal.τ).loc Cert.MlpIdeal.main_arg1)
      ∧ m' ((c.tc : Thread Cert.MlpRefIdeal.nD Cert.MlpRefIdeal.τ).loc Cert.MlpRefIdeal.main_arg2) = m ((c.tc : Thread Cert.MlpIdeal.nD Cert.MlpIdeal.τ).loc Cert.MlpIdeal.main_arg2)
      ∧ m' ((c.tc : Thread Cert.MlpRefIdeal.nD Cert.MlpRefIdeal.τ).loc Cert.MlpRefIdeal.main_arg3) = m ((c.tc : Thread Cert.MlpIdeal.nD Cert.MlpIdeal.τ).loc Cert.MlpIdeal.main_arg3)
      ∧ m' ((c.tc : Thread Cert.MlpRefIdeal.nD Cert.MlpRefIdeal.τ).loc Cert.MlpRefIdeal.main_arg4) = m ((c.tc : Thread Cert.MlpIdeal.nD Cert.MlpIdeal.τ).loc Cert.MlpIdeal.main_arg4)
      ∧ m' ((c.tc : Thread Cert.MlpRefIdeal.nD Cert.MlpRefIdeal.τ).loc Cert.MlpRefIdeal.main_arg5) = m ((c.tc : Thread Cert.MlpIdeal.nD Cert.MlpIdeal.τ).loc Cert.MlpIdeal.main_arg5)) →
    ∃ (v0 : (c : Dev Cert.MlpIdeal.nD) → Buf (Elt Ideal) ((c.tc : Thread Cert.MlpIdeal.nD Cert.MlpIdeal.τ).loc Cert.MlpIdeal.main_v4)),
      θ_run (Cert.MlpIdeal.defs (F := Ideal)) (onTc (τ := Cert.MlpIdeal.τ) (Cert.MlpIdeal.main (F := Ideal))) ⟨m, fun _ => 0, g⟩ (fun r => ∀ c : Dev Cert.MlpIdeal.nD,
          r.2.mem ((c.tc : Thread Cert.MlpIdeal.nD Cert.MlpIdeal.τ).loc Cert.MlpIdeal.main_v4) = v0 c
          ∧ r.2.mem ((c.tc : Thread Cert.MlpIdeal.nD Cert.MlpIdeal.τ).loc Cert.MlpIdeal.main_arg0) = m ((c.tc : Thread Cert.MlpIdeal.nD Cert.MlpIdeal.τ).loc Cert.MlpIdeal.main_arg0)
          ∧ r.2.mem ((c.tc : Thread Cert.MlpIdeal.nD Cert.MlpIdeal.τ).loc Cert.MlpIdeal.main_arg1) = m ((c.tc : Thread Cert.MlpIdeal.nD Cert.MlpIdeal.τ).loc Cert.MlpIdeal.main_arg1)
          ∧ r.2.mem ((c.tc : Thread Cert.MlpIdeal.nD Cert.MlpIdeal.τ).loc Cert.MlpIdeal.main_arg2) = m ((c.tc : Thread Cert.MlpIdeal.nD Cert.MlpIdeal.τ).loc Cert.MlpIdeal.main_arg2)
          ∧ r.2.mem ((c.tc : Thread Cert.MlpIdeal.nD Cert.MlpIdeal.τ).loc Cert.MlpIdeal.main_arg3) = m ((c.tc : Thread Cert.MlpIdeal.nD Cert.MlpIdeal.τ).loc Cert.MlpIdeal.main_arg3)
          ∧ r.2.mem ((c.tc : Thread Cert.MlpIdeal.nD Cert.MlpIdeal.τ).loc Cert.MlpIdeal.main_arg4) = m ((c.tc : Thread Cert.MlpIdeal.nD Cert.MlpIdeal.τ).loc Cert.MlpIdeal.main_arg4)
          ∧ r.2.mem ((c.tc : Thread Cert.MlpIdeal.nD Cert.MlpIdeal.τ).loc Cert.MlpIdeal.main_arg5) = m ((c.tc : Thread Cert.MlpIdeal.nD Cert.MlpIdeal.τ).loc Cert.MlpIdeal.main_arg5))
      ∧ θ_run (Cert.MlpRefIdeal.defs (F := Ideal)) (onTc (τ := Cert.MlpRefIdeal.τ) (Cert.MlpRefIdeal.main (F := Ideal))) ⟨m', fun _ => 0, g'⟩ (fun r => ∀ c : Dev Cert.MlpRefIdeal.nD,
          r.2.mem ((c.tc : Thread Cert.MlpRefIdeal.nD Cert.MlpRefIdeal.τ).loc Cert.MlpRefIdeal.main_v54) = v0 c
          ∧ r.2.mem ((c.tc : Thread Cert.MlpRefIdeal.nD Cert.MlpRefIdeal.τ).loc Cert.MlpRefIdeal.main_arg0) = m' ((c.tc : Thread Cert.MlpRefIdeal.nD Cert.MlpRefIdeal.τ).loc Cert.MlpRefIdeal.main_arg0)
          ∧ r.2.mem ((c.tc : Thread Cert.MlpRefIdeal.nD Cert.MlpRefIdeal.τ).loc Cert.MlpRefIdeal.main_arg1) = m' ((c.tc : Thread Cert.MlpRefIdeal.nD Cert.MlpRefIdeal.τ).loc Cert.MlpRefIdeal.main_arg1)
          ∧ r.2.mem ((c.tc : Thread Cert.MlpRefIdeal.nD Cert.MlpRefIdeal.τ).loc Cert.MlpRefIdeal.main_arg2) = m' ((c.tc : Thread Cert.MlpRefIdeal.nD Cert.MlpRefIdeal.τ).loc Cert.MlpRefIdeal.main_arg2)
          ∧ r.2.mem ((c.tc : Thread Cert.MlpRefIdeal.nD Cert.MlpRefIdeal.τ).loc Cert.MlpRefIdeal.main_arg3) = m' ((c.tc : Thread Cert.MlpRefIdeal.nD Cert.MlpRefIdeal.τ).loc Cert.MlpRefIdeal.main_arg3)
          ∧ r.2.mem ((c.tc : Thread Cert.MlpRefIdeal.nD Cert.MlpRefIdeal.τ).loc Cert.MlpRefIdeal.main_arg4) = m' ((c.tc : Thread Cert.MlpRefIdeal.nD Cert.MlpRefIdeal.τ).loc Cert.MlpRefIdeal.main_arg4)
          ∧ r.2.mem ((c.tc : Thread Cert.MlpRefIdeal.nD Cert.MlpRefIdeal.τ).loc Cert.MlpRefIdeal.main_arg5) = m' ((c.tc : Thread Cert.MlpRefIdeal.nD Cert.MlpRefIdeal.τ).loc Cert.MlpRefIdeal.main_arg5))

def preserves_Adaln_AdalnIdeal : Prop :=
  True

def algebraic_AdalnIdeal_AdalnRefIdeal_pre_finite [hAdalnIdeal : Cert.AdalnIdeal.Facts] [hAdalnRefIdeal : Cert.AdalnRefIdeal.Facts] [hPre_finite : Cert.Pre_finite.Facts] : Prop :=
  ∀ (m : (ℓ : Loc Cert.AdalnIdeal.nD Cert.AdalnIdeal.τ Cert.AdalnIdeal.sig) → Buf (Elt Ideal) ℓ) (g : Dev Cert.AdalnIdeal.nD → PrngReg)
    (m' : (ℓ : Loc Cert.AdalnRefIdeal.nD Cert.AdalnRefIdeal.τ Cert.AdalnRefIdeal.sig) → Buf (Elt Ideal) ℓ) (g' : Dev Cert.AdalnRefIdeal.nD → PrngReg), Pre_AdalnIdeal_finite m →
    (∀ c : Dev Cert.AdalnIdeal.nD,
      m' ((c.tc : Thread Cert.AdalnRefIdeal.nD Cert.AdalnRefIdeal.τ).loc Cert.AdalnRefIdeal.main_arg0) = m ((c.tc : Thread Cert.AdalnIdeal.nD Cert.AdalnIdeal.τ).loc Cert.AdalnIdeal.main_arg0)
      ∧ m' ((c.tc : Thread Cert.AdalnRefIdeal.nD Cert.AdalnRefIdeal.τ).loc Cert.AdalnRefIdeal.main_arg1) = m ((c.tc : Thread Cert.AdalnIdeal.nD Cert.AdalnIdeal.τ).loc Cert.AdalnIdeal.main_arg1)
      ∧ m' ((c.tc : Thread Cert.AdalnRefIdeal.nD Cert.AdalnRefIdeal.τ).loc Cert.AdalnRefIdeal.main_arg2) = m ((c.tc : Thread Cert.AdalnIdeal.nD Cert.AdalnIdeal.τ).loc Cert.AdalnIdeal.main_arg2)) →
    ∃ (v0 : (c : Dev Cert.AdalnIdeal.nD) → Buf (Elt Ideal) ((c.tc : Thread Cert.AdalnIdeal.nD Cert.AdalnIdeal.τ).loc Cert.AdalnIdeal.main_v3)),
      θ_run (Cert.AdalnIdeal.defs (F := Ideal)) (onTc (τ := Cert.AdalnIdeal.τ) (Cert.AdalnIdeal.main (F := Ideal))) ⟨m, fun _ => 0, g⟩ (fun r => ∀ c : Dev Cert.AdalnIdeal.nD,
          r.2.mem ((c.tc : Thread Cert.AdalnIdeal.nD Cert.AdalnIdeal.τ).loc Cert.AdalnIdeal.main_v3) = v0 c
          ∧ r.2.mem ((c.tc : Thread Cert.AdalnIdeal.nD Cert.AdalnIdeal.τ).loc Cert.AdalnIdeal.main_arg0) = m ((c.tc : Thread Cert.AdalnIdeal.nD Cert.AdalnIdeal.τ).loc Cert.AdalnIdeal.main_arg0)
          ∧ r.2.mem ((c.tc : Thread Cert.AdalnIdeal.nD Cert.AdalnIdeal.τ).loc Cert.AdalnIdeal.main_arg1) = m ((c.tc : Thread Cert.AdalnIdeal.nD Cert.AdalnIdeal.τ).loc Cert.AdalnIdeal.main_arg1)
          ∧ r.2.mem ((c.tc : Thread Cert.AdalnIdeal.nD Cert.AdalnIdeal.τ).loc Cert.AdalnIdeal.main_arg2) = m ((c.tc : Thread Cert.AdalnIdeal.nD Cert.AdalnIdeal.τ).loc Cert.AdalnIdeal.main_arg2))
      ∧ θ_run (Cert.AdalnRefIdeal.defs (F := Ideal)) (onTc (τ := Cert.AdalnRefIdeal.τ) (Cert.AdalnRefIdeal.main (F := Ideal))) ⟨m', fun _ => 0, g'⟩ (fun r => ∀ c : Dev Cert.AdalnRefIdeal.nD,
          r.2.mem ((c.tc : Thread Cert.AdalnRefIdeal.nD Cert.AdalnRefIdeal.τ).loc Cert.AdalnRefIdeal.main_v6) = v0 c
          ∧ r.2.mem ((c.tc : Thread Cert.AdalnRefIdeal.nD Cert.AdalnRefIdeal.τ).loc Cert.AdalnRefIdeal.main_arg0) = m' ((c.tc : Thread Cert.AdalnRefIdeal.nD Cert.AdalnRefIdeal.τ).loc Cert.AdalnRefIdeal.main_arg0)
          ∧ r.2.mem ((c.tc : Thread Cert.AdalnRefIdeal.nD Cert.AdalnRefIdeal.τ).loc Cert.AdalnRefIdeal.main_arg1) = m' ((c.tc : Thread Cert.AdalnRefIdeal.nD Cert.AdalnRefIdeal.τ).loc Cert.AdalnRefIdeal.main_arg1)
          ∧ r.2.mem ((c.tc : Thread Cert.AdalnRefIdeal.nD Cert.AdalnRefIdeal.τ).loc Cert.AdalnRefIdeal.main_arg2) = m' ((c.tc : Thread Cert.AdalnRefIdeal.nD Cert.AdalnRefIdeal.τ).loc Cert.AdalnRefIdeal.main_arg2))

def Claim : Prop :=
  ∃ (hKernel : Cert.Kernel.Facts) (hKernelIdeal : Cert.KernelIdeal.Facts) (hReferenceIdeal : Cert.ReferenceIdeal.Facts) (hMlp : Cert.Mlp.Facts) (hMlpIdeal : Cert.MlpIdeal.Facts) (hMlpRefIdeal : Cert.MlpRefIdeal.Facts) (hAdaln : Cert.Adaln.Facts) (hAdalnIdeal : Cert.AdalnIdeal.Facts) (hAdalnRefIdeal : Cert.AdalnRefIdeal.Facts) (hPre_finite : Cert.Pre_finite.Facts) (hOn_weights : Cert.On_weights.Facts),
    quiescent_Kernel (hKernel := hKernel)
    ∧ quiescent_KernelIdeal (hKernelIdeal := hKernelIdeal)
    ∧ quiescent_ReferenceIdeal (hReferenceIdeal := hReferenceIdeal)
    ∧ quiescent_Mlp (hMlp := hMlp)
    ∧ quiescent_MlpIdeal (hMlpIdeal := hMlpIdeal)
    ∧ quiescent_MlpRefIdeal (hMlpRefIdeal := hMlpRefIdeal)
    ∧ quiescent_Adaln (hAdaln := hAdaln)
    ∧ quiescent_AdalnIdeal (hAdalnIdeal := hAdalnIdeal)
    ∧ quiescent_AdalnIdeal_pre_finite (hAdalnIdeal := hAdalnIdeal) (hPre_finite := hPre_finite)
    ∧ quiescent_AdalnRefIdeal (hAdalnRefIdeal := hAdalnRefIdeal)
    ∧ quiescent_AdalnRefIdeal_pre_finite (hAdalnRefIdeal := hAdalnRefIdeal) (hPre_finite := hPre_finite)
    ∧ preserves_Kernel_KernelIdeal
    ∧ algebraic_KernelIdeal_ReferenceIdeal_on_weights (hKernelIdeal := hKernelIdeal) (hReferenceIdeal := hReferenceIdeal) (hOn_weights := hOn_weights)
    ∧ preserves_Mlp_MlpIdeal
    ∧ algebraic_MlpIdeal_MlpRefIdeal (hMlpIdeal := hMlpIdeal) (hMlpRefIdeal := hMlpRefIdeal)
    ∧ preserves_Adaln_AdalnIdeal
    ∧ algebraic_AdalnIdeal_AdalnRefIdeal_pre_finite (hAdalnIdeal := hAdalnIdeal) (hAdalnRefIdeal := hAdalnRefIdeal) (hPre_finite := hPre_finite)
-- ==== On_weights.lean ====
abbrev S16x2048x1024 : Shape := ⟨3, ![16, 2048, 1024]⟩
abbrev S16x6144 : Shape := ⟨2, ![16, 6144]⟩
abbrev S2048x8 : Shape := ⟨2, ![2048, 8]⟩
abbrev S1x1024 : Shape := ⟨2, ![1, 1024]⟩
abbrev S1x1024x2816 : Shape := ⟨3, ![1, 1024, 2816]⟩
abbrev S1x8 : Shape := ⟨2, ![1, 8]⟩
abbrev S1x512 : Shape := ⟨2, ![1, 512]⟩
abbrev S2x512 : Shape := ⟨2, ![2, 512]⟩
abbrev S1x128 : Shape := ⟨2, ![1, 128]⟩
abbrev S1x1024x1024 : Shape := ⟨3, ![1, 1024, 1024]⟩
abbrev S1x1024x4096 : Shape := ⟨3, ![1, 1024, 4096]⟩
abbrev S1x4096x1024 : Shape := ⟨3, ![1, 4096, 1024]⟩
abbrev S_ : Shape := ⟨0, ![]⟩
abbrev S1024x4096 : Shape := ⟨2, ![1024, 4096]⟩
abbrev S4096x1024 : Shape := ⟨2, ![4096, 1024]⟩

class Facts : Prop where
  bcast_S_S16x2048x1024 : S_.BroadcastsInDim S16x2048x1024 (![] : Fin 0 → Fin S16x2048x1024.rank)
  bcast_S_S1024x4096 : S_.BroadcastsInDim S1024x4096 (![] : Fin 0 → Fin S1024x4096.rank)
  bcast_S_S4096x1024 : S_.BroadcastsInDim S4096x1024 (![] : Fin 0 → Fin S4096x1024.rank)

variable [Facts]

def fn {F : FTy → Type} [FloatOps F] (main_arg0 : FVec F S16x2048x1024 .f32) (main_arg1 : FVec F S16x6144 .f32) (main_arg2 : FVec F S2048x8 .f32) (main_arg3 : FVec F S2048x8 .f32) (main_arg4 : FVec F S1x1024 .f32) (main_arg5 : FVec F S1x1024x2816 .f32) (main_arg6 : FVec F S1x8 .f32) (main_arg7 : FVec F S1x512 .f32) (main_arg8 : FVec F S2x512 .f32) (main_arg9 : FVec F S1x128 .f32) (main_arg10 : FVec F S1x1024x1024 .f32) (main_arg11 : FVec F S1x1024 .f32) (main_arg12 : FVec F S1x1024x4096 .f32) (main_arg13 : FVec F S1x4096x1024 .f32) : IVec S16x2048x1024 1 × IVec S1024x4096 1 × IVec S4096x1024 1 :=
  let main_c : IVec S_ 1 := constantI S_ 1 0#1
  let main_v0 : IVec S16x2048x1024 1 := broadcastInDim S16x2048x1024 ![] bcast_S_S16x2048x1024 main_c
  let main_c_0 : IVec S_ 1 := constantI S_ 1 1#1
  let main_v1 : IVec S1024x4096 1 := broadcastInDim S1024x4096 ![] bcast_S_S1024x4096 main_c_0
  let main_c_1 : IVec S_ 1 := constantI S_ 1 1#1
  let main_v2 : IVec S4096x1024 1 := broadcastInDim S4096x1024 ![] bcast_S_S4096x1024 main_c_1
  (main_v0, main_v1, main_v2)
-- ==== Pre_finite.lean ====
abbrev S16x1024 : Shape := ⟨2, ![16, 1024]⟩
abbrev S1x1024x6144 : Shape := ⟨3, ![1, 1024, 6144]⟩
abbrev S1x6144 : Shape := ⟨2, ![1, 6144]⟩
abbrev S_ : Shape := ⟨0, ![]⟩

class Facts : Prop where
  bcast_S_S16x1024 : S_.BroadcastsInDim S16x1024 (![] : Fin 0 → Fin S16x1024.rank)
  bcast_S_S1x1024x6144 : S_.BroadcastsInDim S1x1024x6144 (![] : Fin 0 → Fin S1x1024x6144.rank)

variable [Facts]

def fn {F : FTy → Type} [FloatOps F] (main_arg0 : FVec F S16x1024 .f32) (main_arg1 : FVec F S1x1024x6144 .f32) (main_arg2 : FVec F S1x6144 .f32) : IVec S16x1024 1 × IVec S1x1024x6144 1 :=
  let main_v0 : FVec F S16x1024 .f32 := Host.absf main_arg0
  let main_cst : FVec F S_ .f32 := constant S_ .f32 0x7F800000#32
  let main_v1 : FVec F S16x1024 .f32 := broadcastInDim S16x1024 ![] bcast_S_S16x1024 main_cst
  let main_v2 : IVec S16x1024 1 := cmpf .olt main_v0 main_v1
  let main_v3 : FVec F S1x1024x6144 .f32 := Host.absf main_arg1
  let main_cst_0 : FVec F S_ .f32 := constant S_ .f32 0x7F800000#32
  let main_v4 : FVec F S1x1024x6144 .f32 := broadcastInDim S1x1024x6144 ![] bcast_S_S1x1024x6144 main_cst_0
  let main_v5 : IVec S1x1024x6144 1 := cmpf .olt main_v3 main_v4
  (main_v2, main_v5)
-- ==== Kernel.lean ====
abbrev S16x2048x1024 : Shape := ⟨3, ![16, 2048, 1024]⟩
abbrev S16x6144 : Shape := ⟨2, ![16, 6144]⟩
abbrev S2048x8 : Shape := ⟨2, ![2048, 8]⟩
abbrev S1x1024 : Shape := ⟨2, ![1, 1024]⟩
abbrev S1x1024x2816 : Shape := ⟨3, ![1, 1024, 2816]⟩
abbrev S1x8 : Shape := ⟨2, ![1, 8]⟩
abbrev S1x512 : Shape := ⟨2, ![1, 512]⟩
abbrev S2x512 : Shape := ⟨2, ![2, 512]⟩
abbrev S1x128 : Shape := ⟨2, ![1, 128]⟩
abbrev S1x1024x1024 : Shape := ⟨3, ![1, 1024, 1024]⟩
abbrev S1x1024x4096 : Shape := ⟨3, ![1, 1024, 4096]⟩
abbrev S1x4096x1024 : Shape := ⟨3, ![1, 4096, 1024]⟩
abbrev S1024 : Shape := ⟨1, ![1024]⟩
abbrev S1024x2816 : Shape := ⟨2, ![1024, 2816]⟩
abbrev S_ : Shape := ⟨0, ![]⟩
abbrev S2048x48 : Shape := ⟨2, ![2048, 48]⟩
abbrev S2048x64 : Shape := ⟨2, ![2048, 64]⟩
abbrev S2048x128 : Shape := ⟨2, ![2048, 128]⟩
abbrev S2048x384 : Shape := ⟨2, ![2048, 384]⟩
abbrev S8 : Shape := ⟨1, ![8]⟩
abbrev S512 : Shape := ⟨1, ![512]⟩
abbrev S128 : Shape := ⟨1, ![128]⟩
abbrev S1024x1024 : Shape := ⟨2, ![1024, 1024]⟩
abbrev S1024x4096 : Shape := ⟨2, ![1024, 4096]⟩
abbrev S4096x1024 : Shape := ⟨2, ![4096, 1024]⟩
abbrev S256x256 : Shape := ⟨2, ![256, 256]⟩
abbrev S1024x384 : Shape := ⟨2, ![1024, 384]⟩
abbrev S32x4096 : Shape := ⟨2, ![32, 4096]⟩
abbrev S128x1024 : Shape := ⟨2, ![128, 1024]⟩
abbrev S128x128 : Shape := ⟨2, ![128, 128]⟩
abbrev S4x128x128 : Shape := ⟨3, ![4, 128, 128]⟩
abbrev S1024x64 : Shape := ⟨2, ![1024, 64]⟩
abbrev S64x1024 : Shape := ⟨2, ![64, 1024]⟩
abbrev S1x64 : Shape := ⟨2, ![1, 64]⟩
abbrev S1x256x1024 : Shape := ⟨3, ![1, 256, 1024]⟩
abbrev S256x1024 : Shape := ⟨2, ![256, 1024]⟩
abbrev S256 : Shape := ⟨1, ![256]⟩
abbrev S256x1 : Shape := ⟨2, ![256, 1]⟩
abbrev S1024x512 : Shape := ⟨2, ![1024, 512]⟩
abbrev S256x512 : Shape := ⟨2, ![256, 512]⟩
abbrev S1024x256 : Shape := ⟨2, ![1024, 256]⟩
abbrev S256x384 : Shape := ⟨2, ![256, 384]⟩
abbrev S256x128 : Shape := ⟨2, ![256, 128]⟩
abbrev S1024x128 : Shape := ⟨2, ![1024, 128]⟩
abbrev S1x1 : Shape := ⟨2, ![1, 1]⟩
abbrev S128x1 : Shape := ⟨2, ![128, 1]⟩
abbrev S128x256 : Shape := ⟨2, ![128, 256]⟩
abbrev S128x512 : Shape := ⟨2, ![128, 512]⟩
abbrev S64x512 : Shape := ⟨2, ![64, 512]⟩
abbrev S1x128x128 : Shape := ⟨3, ![1, 128, 128]⟩

abbrev nBuf : Space → Nat
  | .hbm => 92
  | .vmem => 29
  | .smem => 1
  | _ => 0

abbrev bufTy : (tb : Table) → Fin (tcTables nBuf tb) → BufTy
  | .hbm, ⟨0, _⟩ => ⟨S16x2048x1024, .f32⟩
  | .hbm, ⟨1, _⟩ => ⟨S16x6144, .f32⟩
  | .hbm, ⟨2, _⟩ => ⟨S2048x8, .f32⟩
  | .hbm, ⟨3, _⟩ => ⟨S2048x8, .f32⟩
  | .hbm, ⟨4, _⟩ => ⟨S1x1024, .f32⟩
  | .hbm, ⟨5, _⟩ => ⟨S1x1024x2816, .f32⟩
  | .hbm, ⟨6, _⟩ => ⟨S1x8, .f32⟩
  | .hbm, ⟨7, _⟩ => ⟨S1x512, .f32⟩
  | .hbm, ⟨8, _⟩ => ⟨S2x512, .f32⟩
  | .hbm, ⟨9, _⟩ => ⟨S1x128, .f32⟩
  | .hbm, ⟨10, _⟩ => ⟨S1x1024x1024, .f32⟩
  | .hbm, ⟨11, _⟩ => ⟨S1x1024, .f32⟩
  | .hbm, ⟨12, _⟩ => ⟨S1x1024x4096, .f32⟩
  | .hbm, ⟨13, _⟩ => ⟨S1x4096x1024, .f32⟩
  | .hbm, ⟨14, _⟩ => ⟨S1024, .f32⟩
  | .hbm, ⟨15, _⟩ => ⟨S1x1024, .f32⟩
  | .hbm, ⟨16, _⟩ => ⟨S1024x2816, .f32⟩
  | .hbm, ⟨17, _⟩ => ⟨S_, .f32⟩
  | .hbm, ⟨18, _⟩ => ⟨S2048x48, .f32⟩
  | .hbm, ⟨19, _⟩ => ⟨S_, .f32⟩
  | .hbm, ⟨20, _⟩ => ⟨S2048x8, .f32⟩
  | .hbm, ⟨21, _⟩ => ⟨S_, .f32⟩
  | .hbm, ⟨22, _⟩ => ⟨S2048x48, .f32⟩
  | .hbm, ⟨23, _⟩ => ⟨S2048x64, .f32⟩
  | .hbm, ⟨24, _⟩ => ⟨S2048x8, .f32⟩
  | .hbm, ⟨25, _⟩ => ⟨S2048x64, .f32⟩
  | .hbm, ⟨26, _⟩ => ⟨S2048x64, .f32⟩
  | .hbm, ⟨27, _⟩ => ⟨S2048x128, .f32⟩
  | .hbm, ⟨28, _⟩ => ⟨S2048x128, .f32⟩
  | .hbm, ⟨29, _⟩ => ⟨S2048x128, .f32⟩
  | .hbm, ⟨30, _⟩ => ⟨S2048x384, .f32⟩
  | .hbm, ⟨31, _⟩ => ⟨S8, .f32⟩
  | .hbm, ⟨32, _⟩ => ⟨S1x8, .f32⟩
  | .hbm, ⟨33, _⟩ => ⟨S512, .f32⟩
  | .hbm, ⟨34, _⟩ => ⟨S1x512, .f32⟩
  | .hbm, ⟨35, _⟩ => ⟨S128, .f32⟩
  | .hbm, ⟨36, _⟩ => ⟨S1x128, .f32⟩
  | .hbm, ⟨37, _⟩ => ⟨S1024x1024, .f32⟩
  | .hbm, ⟨38, _⟩ => ⟨S1024, .f32⟩
  | .hbm, ⟨39, _⟩ => ⟨S1x1024, .f32⟩
  | .hbm, ⟨40, _⟩ => ⟨S1024x4096, .f32⟩
  | .hbm, ⟨41, _⟩ => ⟨S4096x1024, .f32⟩
  | .hbm, ⟨42, _⟩ => ⟨S256x256, .i32⟩
  | .hbm, ⟨43, _⟩ => ⟨S256x256, .i32⟩
  | .hbm, ⟨44, _⟩ => ⟨S_, .i32⟩
  | .hbm, ⟨45, _⟩ => ⟨S_, .i32⟩
  | .hbm, ⟨46, _⟩ => ⟨S256x256, .i32⟩
  | .hbm, ⟨47, _⟩ => ⟨S256x256, .i32⟩
  | .hbm, ⟨48, _⟩ => ⟨S256x256, .i32⟩
  | .hbm, ⟨49, _⟩ => ⟨S_, .i32⟩
  | .hbm, ⟨50, _⟩ => ⟨S256x256, .i32⟩
  | .hbm, ⟨51, _⟩ => ⟨S256x256, .i1⟩
  | .hbm, ⟨52, _⟩ => ⟨S256x256, .i32⟩
  | .hbm, ⟨53, _⟩ => ⟨S256x256, .i32⟩
  | .hbm, ⟨54, _⟩ => ⟨S_, .i32⟩
  | .hbm, ⟨55, _⟩ => ⟨S256x256, .i32⟩
  | .hbm, ⟨56, _⟩ => ⟨S256x256, .i1⟩
  | .hbm, ⟨57, _⟩ => ⟨S256x256, .i1⟩
  | .hbm, ⟨58, _⟩ => ⟨S_, .i32⟩
  | .hbm, ⟨59, _⟩ => ⟨S256x256, .i32⟩
  | .hbm, ⟨60, _⟩ => ⟨S256x256, .i32⟩
  | .hbm, ⟨61, _⟩ => ⟨S256x256, .i32⟩
  | .hbm, ⟨62, _⟩ => ⟨S_, .i32⟩
  | .hbm, ⟨63, _⟩ => ⟨S_, .i32⟩
  | .hbm, ⟨64, _⟩ => ⟨S256x256, .i32⟩
  | .hbm, ⟨65, _⟩ => ⟨S256x256, .i32⟩
  | .hbm, ⟨66, _⟩ => ⟨S256x256, .i32⟩
  | .hbm, ⟨67, _⟩ => ⟨S_, .i32⟩
  | .hbm, ⟨68, _⟩ => ⟨S256x256, .i32⟩
  | .hbm, ⟨69, _⟩ => ⟨S256x256, .i1⟩
  | .hbm, ⟨70, _⟩ => ⟨S256x256, .i32⟩
  | .hbm, ⟨71, _⟩ => ⟨S256x256, .i32⟩
  | .hbm, ⟨72, _⟩ => ⟨S_, .i32⟩
  | .hbm, ⟨73, _⟩ => ⟨S256x256, .i32⟩
  | .hbm, ⟨74, _⟩ => ⟨S256x256, .i1⟩
  | .hbm, ⟨75, _⟩ => ⟨S256x256, .i1⟩
  | .hbm, ⟨76, _⟩ => ⟨S_, .i32⟩
  | .hbm, ⟨77, _⟩ => ⟨S256x256, .i32⟩
  | .hbm, ⟨78, _⟩ => ⟨S256x256, .i32⟩
  | .hbm, ⟨79, _⟩ => ⟨S256x256, .i32⟩
  | .hbm, ⟨80, _⟩ => ⟨S256x256, .i1⟩
  | .hbm, ⟨81, _⟩ => ⟨S256x256, .i1⟩
  | .hbm, ⟨82, _⟩ => ⟨S256x256, .i1⟩
  | .hbm, ⟨83, _⟩ => ⟨S_, .f32⟩
  | .hbm, ⟨84, _⟩ => ⟨S_, .f32⟩
  | .hbm, ⟨85, _⟩ => ⟨S256x256, .f32⟩
  | .hbm, ⟨86, _⟩ => ⟨S256x256, .f32⟩
  | .hbm, ⟨87, _⟩ => ⟨S256x256, .f32⟩
  | .hbm, ⟨88, _⟩ => ⟨S256x256, .bf16⟩
  | .hbm, ⟨89, _⟩ => ⟨S16x2048x1024, .f32⟩
  | .hbm, ⟨90, _⟩ => ⟨S1024x4096, .bf16⟩
  | .hbm, ⟨91, _⟩ => ⟨S4096x1024, .bf16⟩
  | .local _ .vmem, ⟨0, _⟩ => ⟨S1x1024x1024, .f32⟩
  | .local _ .vmem, ⟨1, _⟩ => ⟨S1x1024x1024, .f32⟩
  | .local _ .vmem, ⟨2, _⟩ => ⟨S16x6144, .f32⟩
  | .local _ .vmem, ⟨3, _⟩ => ⟨S1x1024, .f32⟩
  | .local _ .vmem, ⟨4, _⟩ => ⟨S1024x2816, .f32⟩
  | .local _ .vmem, ⟨5, _⟩ => ⟨S1024x384, .f32⟩
  | .local _ .vmem, ⟨6, _⟩ => ⟨S1024x384, .f32⟩
  | .local _ .vmem, ⟨7, _⟩ => ⟨S1x512, .f32⟩
  | .local _ .vmem, ⟨8, _⟩ => ⟨S2x512, .f32⟩
  | .local _ .vmem, ⟨9, _⟩ => ⟨S1x128, .f32⟩
  | .local _ .vmem, ⟨10, _⟩ => ⟨S256x256, .bf16⟩
  | .local _ .vmem, ⟨11, _⟩ => ⟨S1024x1024, .f32⟩
  | .local _ .vmem, ⟨12, _⟩ => ⟨S1x1024, .f32⟩
  | .local _ .vmem, ⟨13, _⟩ => ⟨S32x4096, .f32⟩
  | .local _ .vmem, ⟨14, _⟩ => ⟨S32x4096, .f32⟩
  | .local _ .vmem, ⟨15, _⟩ => ⟨S128x1024, .f32⟩
  | .local _ .vmem, ⟨16, _⟩ => ⟨S128x1024, .f32⟩
  | .local _ .vmem, ⟨17, _⟩ => ⟨S1x1024x1024, .f32⟩
  | .local _ .vmem, ⟨18, _⟩ => ⟨S1x1024x1024, .f32⟩
  | .local _ .vmem, ⟨19, _⟩ => ⟨S32x4096, .bf16⟩
  | .local _ .vmem, ⟨20, _⟩ => ⟨S32x4096, .bf16⟩
  | .local _ .vmem, ⟨21, _⟩ => ⟨S128x1024, .bf16⟩
  | .local _ .vmem, ⟨22, _⟩ => ⟨S128x1024, .bf16⟩
  | .local _ .vmem, ⟨23, _⟩ => ⟨S128x128, .bf16⟩
  | .local _ .vmem, ⟨24, _⟩ => ⟨S128x128, .bf16⟩
  | .local _ .vmem, ⟨25, _⟩ => ⟨S4x128x128, .f32⟩
  | .local _ .vmem, ⟨26, _⟩ => ⟨S1024x2816, .bf16⟩
  | .local _ .vmem, ⟨27, _⟩ => ⟨S1024x1024, .bf16⟩
  | .local _ .vmem, ⟨28, _⟩ => ⟨S1x512, .f32⟩
  | .local _ .smem, ⟨0, _⟩ => ⟨S1x8, .f32⟩
  | _, _ => ⟨S16x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .smem, ⟨0, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_cst : Ref sig .tc := ⟨.hbm, 17, rfl⟩
abbrev main_v3 : Ref sig .tc := ⟨.hbm, 18, rfl⟩
abbrev main_cst_0 : Ref sig .tc := ⟨.hbm, 19, rfl⟩
abbrev main_v4 : Ref sig .tc := ⟨.hbm, 20, rfl⟩
abbrev main_cst_1 : Ref sig .tc := ⟨.hbm, 21, rfl⟩
abbrev main_v5 : Ref sig .tc := ⟨.hbm, 22, rfl⟩
abbrev main_v6 : Ref sig .tc := ⟨.hbm, 23, rfl⟩
abbrev main_v7 : Ref sig .tc := ⟨.hbm, 24, rfl⟩
abbrev main_v8 : Ref sig .tc := ⟨.hbm, 25, rfl⟩
abbrev main_v9 : Ref sig .tc := ⟨.hbm, 26, rfl⟩
abbrev main_v10 : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_c : Ref sig .tc := ⟨.hbm, 44, rfl⟩
abbrev main_call0_v0 : Ref sig .tc := ⟨.hbm, 45, rfl⟩
abbrev main_call0_v1 : Ref sig .tc := ⟨.hbm, 46, rfl⟩
abbrev main_call0_v2 : Ref sig .tc := ⟨.hbm, 47, rfl⟩
abbrev main_call0_v3 : Ref sig .tc := ⟨.hbm, 48, rfl⟩
abbrev main_call0_v4 : Ref sig .tc := ⟨.hbm, 49, rfl⟩
abbrev main_call0_v5 : Ref sig .tc := ⟨.hbm, 50, rfl⟩
abbrev main_call0_v6 : Ref sig .tc := ⟨.hbm, 51, rfl⟩
abbrev main_call0_v7 : Ref sig .tc := ⟨.hbm, 52, rfl⟩
abbrev main_call0_v8 : Ref sig .tc := ⟨.hbm, 53, rfl⟩
abbrev main_call0_c : Ref sig .tc := ⟨.hbm, 54, rfl⟩
abbrev main_call0_v9 : Ref sig .tc := ⟨.hbm, 55, rfl⟩
abbrev main_call0_v10 : Ref sig .tc := ⟨.hbm, 56, rfl⟩
abbrev main_call0_v11 : Ref sig .tc := ⟨.hbm, 57, rfl⟩
abbrev main_call0_c_0 : Ref sig .tc := ⟨.hbm, 58, rfl⟩
abbrev main_call0_v12 : Ref sig .tc := ⟨.hbm, 59, rfl⟩
abbrev main_call0_v13 : Ref sig .tc := ⟨.hbm, 60, rfl⟩
abbrev main_v27 : Ref sig .tc := ⟨.hbm, 61, rfl⟩
abbrev main_c_2 : Ref sig .tc := ⟨.hbm, 62, rfl⟩
abbrev main_call1_v0 : Ref sig .tc := ⟨.hbm, 63, rfl⟩
abbrev main_call1_v1 : Ref sig .tc := ⟨.hbm, 64, rfl⟩
abbrev main_call1_v2 : Ref sig .tc := ⟨.hbm, 65, rfl⟩
abbrev main_call1_v3 : Ref sig .tc := ⟨.hbm, 66, rfl⟩
abbrev main_call1_v4 : Ref sig .tc := ⟨.hbm, 67, rfl⟩
abbrev main_call1_v5 : Ref sig .tc := ⟨.hbm, 68, rfl⟩
abbrev main_call1_v6 : Ref sig .tc := ⟨.hbm, 69, rfl⟩
abbrev main_call1_v7 : Ref sig .tc := ⟨.hbm, 70, rfl⟩
abbrev main_call1_v8 : Ref sig .tc := ⟨.hbm, 71, rfl⟩
abbrev main_call1_c : Ref sig .tc := ⟨.hbm, 72, rfl⟩
abbrev main_call1_v9 : Ref sig .tc := ⟨.hbm, 73, rfl⟩
abbrev main_call1_v10 : Ref sig .tc := ⟨.hbm, 74, rfl⟩
abbrev main_call1_v11 : Ref sig .tc := ⟨.hbm, 75, rfl⟩
abbrev main_call1_c_0 : Ref sig .tc := ⟨.hbm, 76, rfl⟩
abbrev main_call1_v12 : Ref sig .tc := ⟨.hbm, 77, rfl⟩
abbrev main_call1_v13 : Ref sig .tc := ⟨.hbm, 78, rfl⟩
abbrev main_v28 : Ref sig .tc := ⟨.hbm, 79, rfl⟩
abbrev main_v29 : Ref sig .tc := ⟨.hbm, 80, rfl⟩
abbrev main_v30 : Ref sig .tc := ⟨.hbm, 81, rfl⟩
abbrev main_v31 : Ref sig .tc := ⟨.hbm, 82, rfl⟩
abbrev main_cst_3 : Ref sig .tc := ⟨.hbm, 83, rfl⟩
abbrev main_cst_4 : Ref sig .tc := ⟨.hbm, 84, rfl⟩
abbrev main_call2_v0 : Ref sig .tc := ⟨.hbm, 85, rfl⟩
abbrev main_call2_v1 : Ref sig .tc := ⟨.hbm, 86, rfl⟩
abbrev main_v32 : Ref sig .tc := ⟨.hbm, 87, rfl⟩
abbrev main_v33 : Ref sig .tc := ⟨.hbm, 88, rfl⟩
abbrev main_v34_0 : Ref sig .tc := ⟨.hbm, 89, rfl⟩
abbrev main_v34_1 : Ref sig .tc := ⟨.hbm, 90, rfl⟩
abbrev main_v34_2 : Ref sig .tc := ⟨.hbm, 91, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg5_1 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg10_0 : Ref sig .tc := ⟨.vmem, 11, rfl⟩
abbrev cc0_stg11_0 : Ref sig .tc := ⟨.vmem, 12, rfl⟩
abbrev cc0_stg12_0 : Ref sig .tc := ⟨.vmem, 13, rfl⟩
abbrev cc0_stg12_1 : Ref sig .tc := ⟨.vmem, 14, rfl⟩
abbrev cc0_stg13_0 : Ref sig .tc := ⟨.vmem, 15, rfl⟩
abbrev cc0_stg13_1 : Ref sig .tc := ⟨.vmem, 16, rfl⟩
abbrev cc0_stg14_0 : Ref sig .tc := ⟨.vmem, 17, rfl⟩
abbrev cc0_stg14_1 : Ref sig .tc := ⟨.vmem, 18, rfl⟩
abbrev cc0_stg15_0 : Ref sig .tc := ⟨.vmem, 19, rfl⟩
abbrev cc0_stg15_1 : Ref sig .tc := ⟨.vmem, 20, rfl⟩
abbrev cc0_stg16_0 : Ref sig .tc := ⟨.vmem, 21, rfl⟩
abbrev cc0_stg16_1 : Ref sig .tc := ⟨.vmem, 22, rfl⟩
abbrev cc0_scratch0 : Ref sig .tc := ⟨.vmem, 23, rfl⟩
abbrev cc0_scratch1 : Ref sig .tc := ⟨.vmem, 24, rfl⟩
abbrev cc0_scratch2 : Ref sig .tc := ⟨.vmem, 25, rfl⟩
abbrev cc0_scratch3 : Ref sig .tc := ⟨.vmem, 26, rfl⟩
abbrev cc0_scratch4 : Ref sig .tc := ⟨.vmem, 27, rfl⟩
abbrev cc0_scratch5 : Ref sig .tc := ⟨.vmem, 28, rfl⟩
abbrev cc0_stg0_0 : Ref sig .tc := ⟨.smem, 0, rfl⟩
abbrev cc0_sem0_0 : DmaSem sig := 0
abbrev cc0_sem1_0 : DmaSem sig := 1
abbrev cc0_sem1_1 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc0_sem6_0 : DmaSem sig := 8
abbrev cc0_sem7_0 : DmaSem sig := 9
abbrev cc0_sem8_0 : DmaSem sig := 10
abbrev cc0_sem9_0 : DmaSem sig := 11
abbrev cc0_sem10_0 : DmaSem sig := 12
abbrev cc0_sem11_0 : DmaSem sig := 13
abbrev cc0_sem12_0 : DmaSem sig := 14
abbrev cc0_sem12_1 : DmaSem sig := 15
abbrev cc0_sem13_0 : DmaSem sig := 16
abbrev cc0_sem13_1 : DmaSem sig := 17
abbrev cc0_sem14_0 : DmaSem sig := 18
abbrev cc0_sem14_1 : DmaSem sig := 19
abbrev cc0_sem15_0 : DmaSem sig := 20
abbrev cc0_sem15_1 : DmaSem sig := 21
abbrev cc0_sem16_0 : DmaSem sig := 22
abbrev cc0_sem16_1 : DmaSem sig := 23

abbrev nD : Nat := 1
abbrev τ : Topo := Topo.v7x

variable {F : FTy → Type} [FloatOps F]

abbrev grid0 : Pipeline.Grid := ⟨2, ![16, 2], ![false, false]⟩

def k0_off1 (i : grid0.Coords) : Fin 2 → Nat :=
  let arg0 : BitVec 32 := BitVec.ofNat 32 (i 0).val
  let v0 : Index := Scalar.indexCast arg0
  let c0 : Index := 0#32
  ![v0.toNat, 0]
def k0_off2 (i : grid0.Coords) : Fin 2 → Nat :=
  let arg0 : BitVec 32 := BitVec.ofNat 32 (i 0).val
  let v2 : Index := Scalar.indexCast arg0
  let c1024 : Index := 1024#32
  ![v2.toNat, 1024]
def k0_off3 (i : grid0.Coords) : Fin 2 → Nat :=
  let arg0 : BitVec 32 := BitVec.ofNat 32 (i 0).val
  let v4 : Index := Scalar.indexCast arg0
  let c2048 : Index := 2048#32
  ![v4.toNat, 2048]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.muli arg0 c2_i32
  let v1 : BitVec 32 := Scalar.addi v0 arg1
  let c0_i32 : BitVec 32 := 0#32
  let c0_i32_0 : BitVec 32 := 0#32
  ![v1.toNat, c0_i32.toNat]

def cc0_transform_13 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.muli arg0 c2_i32
  let v1 : BitVec 32 := Scalar.addi v0 arg1
  let c0_i32 : BitVec 32 := 0#32
  let c0_i32_0 : BitVec 32 := 0#32
  ![v1.toNat, c0_i32.toNat]

def cc0_transform_14 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_15 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.muli arg0 c2_i32
  let v1 : BitVec 32 := Scalar.addi v0 arg1
  let c0_i32 : BitVec 32 := 0#32
  let c0_i32_0 : BitVec 32 := 0#32
  ![v1.toNat, c0_i32.toNat]

def cc0_transform_16 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.muli arg0 c2_i32
  let v1 : BitVec 32 := Scalar.addi v0 arg1
  let c0_i32 : BitVec 32 := 0#32
  let c0_i32_0 : BitVec 32 := 0#32
  ![v1.toNat, c0_i32.toNat]

abbrev stage0_0 : Fin 1 → Memref sig .tc .smem S1x8 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S1x1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S16x6144 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1024x2816 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S1024x384 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 1 → Memref sig .tc .vmem S1x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S2x512 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S256x256 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S1024x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 1 → Memref sig .tc .vmem S1x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false]

abbrev stage0_12 : Fin 2 → Memref sig .tc .vmem S32x4096 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]

abbrev stage0_13 : Fin 2 → Memref sig .tc .vmem S128x1024 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true]

abbrev stage0_14 : Fin 2 → Memref sig .tc .vmem S1x1024x1024 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, true]

abbrev stage0_15 : Fin 2 → Memref sig .tc .vmem S32x4096 .bf16 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true, true]

abbrev stage0_16 : Fin 2 → Memref sig .tc .vmem S128x1024 .bf16 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true, true]
-- ==== ReferenceIdeal.lean ====
abbrev S16x2048x1024 : Shape := ⟨3, ![16, 2048, 1024]⟩
abbrev S16x6144 : Shape := ⟨2, ![16, 6144]⟩
abbrev S2048x8 : Shape := ⟨2, ![2048, 8]⟩
abbrev S1x1024 : Shape := ⟨2, ![1, 1024]⟩
abbrev S1x1024x2816 : Shape := ⟨3, ![1, 1024, 2816]⟩
abbrev S1x8 : Shape := ⟨2, ![1, 8]⟩
abbrev S1x512 : Shape := ⟨2, ![1, 512]⟩
abbrev S2x512 : Shape := ⟨2, ![2, 512]⟩
abbrev S1x128 : Shape := ⟨2, ![1, 128]⟩
abbrev S1x1024x1024 : Shape := ⟨3, ![1, 1024, 1024]⟩
abbrev S1x1024x4096 : Shape := ⟨3, ![1, 1024, 4096]⟩
abbrev S1x4096x1024 : Shape := ⟨3, ![1, 4096, 1024]⟩
abbrev S_ : Shape := ⟨0, ![]⟩
abbrev S512 : Shape := ⟨1, ![512]⟩
abbrev S16x1024 : Shape := ⟨2, ![16, 1024]⟩
abbrev S16x1x1024 : Shape := ⟨3, ![16, 1, 1024]⟩
abbrev S1024 : Shape := ⟨1, ![1024]⟩
abbrev S16x2048 : Shape := ⟨2, ![16, 2048]⟩
abbrev S16x2048x1 : Shape := ⟨3, ![16, 2048, 1]⟩
abbrev S1x1x1024 : Shape := ⟨3, ![1, 1, 1024]⟩
abbrev S1024x2816 : Shape := ⟨2, ![1024, 2816]⟩
abbrev S16x2048x2816 : Shape := ⟨3, ![16, 2048, 2816]⟩
abbrev S16x2048x512 : Shape := ⟨3, ![16, 2048, 512]⟩
abbrev S16x2048x128 : Shape := ⟨3, ![16, 2048, 128]⟩
abbrev S16x2048x8x64 : Shape := ⟨4, ![16, 2048, 8, 64]⟩
abbrev S1x2048x1x8 : Shape := ⟨4, ![1, 2048, 1, 8]⟩
abbrev S16x2048x8x8 : Shape := ⟨4, ![16, 2048, 8, 8]⟩
abbrev S16x2048x8x48 : Shape := ⟨4, ![16, 2048, 8, 48]⟩
abbrev S16x2048x2x64 : Shape := ⟨4, ![16, 2048, 2, 64]⟩
abbrev S16x2048x2x8 : Shape := ⟨4, ![16, 2048, 2, 8]⟩
abbrev S16x2048x2x48 : Shape := ⟨4, ![16, 2048, 2, 48]⟩
abbrev S8 : Shape := ⟨1, ![8]⟩
abbrev S16x16x128x2x4x64 : Shape := ⟨6, ![16, 16, 128, 2, 4, 64]⟩
abbrev S16x16x128x2x64 : Shape := ⟨5, ![16, 16, 128, 2, 64]⟩
abbrev S16x17x128x2x64 : Shape := ⟨5, ![16, 17, 128, 2, 64]⟩
abbrev S16x16x256x2x64 : Shape := ⟨5, ![16, 16, 256, 2, 64]⟩
abbrev S16x16x2x256x128x4 : Shape := ⟨6, ![16, 16, 2, 256, 128, 4]⟩
abbrev S16x16x2x4x128x256 : Shape := ⟨6, ![16, 16, 2, 4, 128, 256]⟩
abbrev S16 : Shape := ⟨1, ![16]⟩
abbrev S16x1 : Shape := ⟨2, ![16, 1]⟩
abbrev S128 : Shape := ⟨1, ![128]⟩
abbrev S16x128 : Shape := ⟨2, ![16, 128]⟩
abbrev S256 : Shape := ⟨1, ![256]⟩
abbrev S1x256 : Shape := ⟨2, ![1, 256]⟩
abbrev S16x256 : Shape := ⟨2, ![16, 256]⟩
abbrev S16x128x1 : Shape := ⟨3, ![16, 128, 1]⟩
abbrev S16x1x256 : Shape := ⟨3, ![16, 1, 256]⟩
abbrev S16x128x256 : Shape := ⟨3, ![16, 128, 256]⟩
abbrev S1x16x1x1x128x256 : Shape := ⟨6, ![1, 16, 1, 1, 128, 256]⟩
abbrev S2x4 : Shape := ⟨2, ![2, 4]⟩
abbrev S1x1x2x4x1x1 : Shape := ⟨6, ![1, 1, 2, 4, 1, 1]⟩
abbrev S16x16x2x4x128 : Shape := ⟨5, ![16, 16, 2, 4, 128]⟩
abbrev S16x16x2x4x128x1 : Shape := ⟨6, ![16, 16, 2, 4, 128, 1]⟩
abbrev S16x16x2x64x4x128 : Shape := ⟨6, ![16, 16, 2, 64, 4, 128]⟩
abbrev S1x1x512 : Shape := ⟨3, ![1, 1, 512]⟩
abbrev S4x128 : Shape := ⟨2, ![4, 128]⟩
abbrev S16x2048x4x128 : Shape := ⟨4, ![16, 2048, 4, 128]⟩
abbrev S1x1x4x128 : Shape := ⟨4, ![1, 1, 4, 128]⟩
abbrev S16x4x2048x128 : Shape := ⟨4, ![16, 4, 2048, 128]⟩
abbrev S2048x2048 : Shape := ⟨2, ![2048, 2048]⟩
abbrev S16x4x2048x2048 : Shape := ⟨4, ![16, 4, 2048, 2048]⟩
abbrev S16x2048x4 : Shape := ⟨3, ![16, 2048, 4]⟩
abbrev S16x2048x4x1 : Shape := ⟨4, ![16, 2048, 4, 1]⟩
abbrev S1x1x1x128 : Shape := ⟨4, ![1, 1, 1, 128]⟩
abbrev S1024x1024 : Shape := ⟨2, ![1024, 1024]⟩
abbrev S1024x4096 : Shape := ⟨2, ![1024, 4096]⟩
abbrev S4096x1024 : Shape := ⟨2, ![4096, 1024]⟩

abbrev nBuf : Space → Nat
  | .hbm => 340
  | .vmem => 0
  | .smem => 0
  | _ => 0

abbrev hbmTy0_0 (i : Nat) : BufTy := match i % 128 with
  | 0 => ⟨S16x2048x1024, .f32⟩
  | 1 => ⟨S16x6144, .f32⟩
  | 2 => ⟨S2048x8, .f32⟩
  | 3 => ⟨S2048x8, .f32⟩
  | 4 => ⟨S1x1024, .f32⟩
  | 5 => ⟨S1x1024x2816, .f32⟩
  | 6 => ⟨S1x8, .f32⟩
  | 7 => ⟨S1x512, .f32⟩
  | 8 => ⟨S2x512, .f32⟩
  | 9 => ⟨S1x128, .f32⟩
  | 10 => ⟨S1x1024x1024, .f32⟩
  | 11 => ⟨S1x1024, .f32⟩
  | 12 => ⟨S1x1024x4096, .f32⟩
  | 13 => ⟨S1x4096x1024, .f32⟩
  | 14 => ⟨S_, .f32⟩
  | 15 => ⟨S512, .f32⟩
  | 16 => ⟨S_, .f32⟩
  | 17 => ⟨S512, .f32⟩
  | 18 => ⟨S512, .f32⟩
  | 19 => ⟨S1x512, .f32⟩
  | 20 => ⟨S2x512, .f32⟩
  | 21 => ⟨S2x512, .f32⟩
  | 22 => ⟨S2x512, .f32⟩
  | 23 => ⟨S_, .f32⟩
  | 24 => ⟨S512, .f32⟩
  | 25 => ⟨S1x512, .f32⟩
  | 26 => ⟨S2x512, .f32⟩
  | 27 => ⟨S2x512, .f32⟩
  | 28 => ⟨S_, .f32⟩
  | 29 => ⟨S_, .f32⟩
  | 30 => ⟨S2x512, .f32⟩
  | 31 => ⟨S1x512, .f32⟩
  | 32 => ⟨S2x512, .f32⟩
  | 33 => ⟨S2x512, .f32⟩
  | 34 => ⟨S16x1024, .f32⟩
  | 35 => ⟨S16x1024, .f32⟩
  | 36 => ⟨S16x1024, .f32⟩
  | 37 => ⟨S16x1024, .f32⟩
  | 38 => ⟨S16x1024, .f32⟩
  | 39 => ⟨S16x1024, .f32⟩
  | 40 => ⟨S16x1x1024, .f32⟩
  | 41 => ⟨S16x1x1024, .f32⟩
  | 42 => ⟨S16x1x1024, .f32⟩
  | 43 => ⟨S16x1x1024, .f32⟩
  | 44 => ⟨S16x1x1024, .f32⟩
  | 45 => ⟨S16x1x1024, .f32⟩
  | 46 => ⟨S1024, .f32⟩
  | 47 => ⟨S16x2048x1024, .f32⟩
  | 48 => ⟨S_, .f32⟩
  | 49 => ⟨S16x2048, .f32⟩
  | 50 => ⟨S16x2048x1, .f32⟩
  | 51 => ⟨S_, .f32⟩
  | 52 => ⟨S16x2048x1, .f32⟩
  | 53 => ⟨S16x2048x1, .f32⟩
  | 54 => ⟨S_, .f32⟩
  | 55 => ⟨S16x2048x1, .f32⟩
  | 56 => ⟨S16x2048x1, .f32⟩
  | 57 => ⟨S16x2048x1, .f32⟩
  | 58 => ⟨S16x2048x1024, .f32⟩
  | 59 => ⟨S16x2048x1024, .f32⟩
  | 60 => ⟨S1x1x1024, .f32⟩
  | 61 => ⟨S16x2048x1024, .f32⟩
  | 62 => ⟨S16x2048x1024, .f32⟩
  | 63 => ⟨S_, .f32⟩
  | 64 => ⟨S16x1x1024, .f32⟩
  | 65 => ⟨S16x1x1024, .f32⟩
  | 66 => ⟨S16x2048x1024, .f32⟩
  | 67 => ⟨S16x2048x1024, .f32⟩
  | 68 => ⟨S16x2048x1024, .f32⟩
  | 69 => ⟨S16x2048x1024, .f32⟩
  | 70 => ⟨S1024x2816, .f32⟩
  | 71 => ⟨S16x2048x2816, .f32⟩
  | 72 => ⟨S16x2048x512, .f32⟩
  | 73 => ⟨S16x2048x128, .f32⟩
  | 74 => ⟨S16x2048x128, .f32⟩
  | 75 => ⟨S16x2048x512, .f32⟩
  | 76 => ⟨S16x2048x512, .f32⟩
  | 77 => ⟨S16x2048x512, .f32⟩
  | 78 => ⟨S16x2048x512, .f32⟩
  | 79 => ⟨S16x2048x8x64, .f32⟩
  | 80 => ⟨S1x2048x1x8, .f32⟩
  | 81 => ⟨S1x2048x1x8, .f32⟩
  | 82 => ⟨S16x2048x8x8, .f32⟩
  | 83 => ⟨S16x2048x8x8, .f32⟩
  | 84 => ⟨S16x2048x8x48, .f32⟩
  | 85 => ⟨S16x2048x8x8, .f32⟩
  | 86 => ⟨S16x2048x8x8, .f32⟩
  | 87 => ⟨S16x2048x8x8, .f32⟩
  | 88 => ⟨S16x2048x8x8, .f32⟩
  | 89 => ⟨S16x2048x8x8, .f32⟩
  | 90 => ⟨S16x2048x8x8, .f32⟩
  | 91 => ⟨S16x2048x8x8, .f32⟩
  | 92 => ⟨S16x2048x8x8, .f32⟩
  | 93 => ⟨S16x2048x8x8, .f32⟩
  | 94 => ⟨S16x2048x8x8, .f32⟩
  | 95 => ⟨S16x2048x8x64, .f32⟩
  | 96 => ⟨S16x2048x2x64, .f32⟩
  | 97 => ⟨S1x2048x1x8, .f32⟩
  | 98 => ⟨S1x2048x1x8, .f32⟩
  | 99 => ⟨S16x2048x2x8, .f32⟩
  | 100 => ⟨S16x2048x2x8, .f32⟩
  | 101 => ⟨S16x2048x2x48, .f32⟩
  | 102 => ⟨S16x2048x2x8, .f32⟩
  | 103 => ⟨S16x2048x2x8, .f32⟩
  | 104 => ⟨S16x2048x2x8, .f32⟩
  | 105 => ⟨S16x2048x2x8, .f32⟩
  | 106 => ⟨S16x2048x2x8, .f32⟩
  | 107 => ⟨S16x2048x2x8, .f32⟩
  | 108 => ⟨S16x2048x2x8, .f32⟩
  | 109 => ⟨S16x2048x2x8, .f32⟩
  | 110 => ⟨S16x2048x2x8, .f32⟩
  | 111 => ⟨S16x2048x2x8, .f32⟩
  | 112 => ⟨S16x2048x2x64, .f32⟩
  | 113 => ⟨S16x2048x2x64, .f32⟩
  | 114 => ⟨S8, .f32⟩
  | 115 => ⟨S16x16x128x2x4x64, .f32⟩
  | 116 => ⟨S16x16x128x2x64, .f32⟩
  | 117 => ⟨S_, .i32⟩
  | 118 => ⟨S_, .f32⟩
  | 119 => ⟨S16x17x128x2x64, .f32⟩
  | 120 => ⟨S16x16x128x2x64, .f32⟩
  | 121 => ⟨S16x16x256x2x64, .f32⟩
  | 122 => ⟨S16x16x128x2x64, .f32⟩
  | 123 => ⟨S_, .i32⟩
  | 124 => ⟨S_, .f32⟩
  | 125 => ⟨S16x17x128x2x64, .f32⟩
  | 126 => ⟨S16x16x128x2x64, .f32⟩
  | 127 => ⟨S16x16x256x2x64, .f32⟩
  | _ => ⟨S16x2048x1024, .f32⟩

abbrev hbmTy0_1 (i : Nat) : BufTy := match i % 128 with
  | 0 => ⟨S16x16x2x256x128x4, .f32⟩
  | 1 => ⟨S16x16x2x4x128x256, .f32⟩
  | 2 => ⟨S_, .f32⟩
  | 3 => ⟨S16x16x2x4x128x256, .f32⟩
  | 4 => ⟨S16x16x2x4x128x256, .f32⟩
  | 5 => ⟨S16, .i32⟩
  | 6 => ⟨S16x1, .i32⟩
  | 7 => ⟨S_, .i32⟩
  | 8 => ⟨S16x1, .i32⟩
  | 9 => ⟨S16x1, .i32⟩
  | 10 => ⟨S128, .i32⟩
  | 11 => ⟨S1x128, .i32⟩
  | 12 => ⟨S16x128, .i32⟩
  | 13 => ⟨S16x128, .i32⟩
  | 14 => ⟨S16x128, .i32⟩
  | 15 => ⟨S_, .i32⟩
  | 16 => ⟨S16x1, .i32⟩
  | 17 => ⟨S16x1, .i32⟩
  | 18 => ⟨S_, .i32⟩
  | 19 => ⟨S16x1, .i32⟩
  | 20 => ⟨S16x1, .i32⟩
  | 21 => ⟨S256, .i32⟩
  | 22 => ⟨S1x256, .i32⟩
  | 23 => ⟨S16x256, .i32⟩
  | 24 => ⟨S16x256, .i32⟩
  | 25 => ⟨S16x256, .i32⟩
  | 26 => ⟨S16x128x1, .i32⟩
  | 27 => ⟨S16x1x256, .i32⟩
  | 28 => ⟨S16x128x256, .i32⟩
  | 29 => ⟨S16x128x256, .i32⟩
  | 30 => ⟨S16x128x256, .i32⟩
  | 31 => ⟨S_, .i32⟩
  | 32 => ⟨S16x128x256, .i32⟩
  | 33 => ⟨S16x128x256, .i1⟩
  | 34 => ⟨S_, .i32⟩
  | 35 => ⟨S16x128x256, .i32⟩
  | 36 => ⟨S16x128x256, .i1⟩
  | 37 => ⟨S16x128x256, .i1⟩
  | 38 => ⟨S16x1x256, .i32⟩
  | 39 => ⟨S_, .i32⟩
  | 40 => ⟨S16x1x256, .i32⟩
  | 41 => ⟨S16x1x256, .i1⟩
  | 42 => ⟨S16x128x256, .i1⟩
  | 43 => ⟨S16x128x256, .i1⟩
  | 44 => ⟨S1x16x1x1x128x256, .i1⟩
  | 45 => ⟨S_, .f32⟩
  | 46 => ⟨S_, .f32⟩
  | 47 => ⟨S16x16x2x4x128x256, .i1⟩
  | 48 => ⟨S16x16x2x4x128x256, .f32⟩
  | 49 => ⟨S16x16x2x4x128x256, .f32⟩
  | 50 => ⟨S2x4, .f32⟩
  | 51 => ⟨S1x1x2x4x1x1, .f32⟩
  | 52 => ⟨S_, .f32⟩
  | 53 => ⟨S16x16x2x4x128, .f32⟩
  | 54 => ⟨S16x16x2x4x128x1, .f32⟩
  | 55 => ⟨S16x16x2x4x128x1, .f32⟩
  | 56 => ⟨S16x16x2x4x128x1, .f32⟩
  | 57 => ⟨S16x16x2x4x128x256, .f32⟩
  | 58 => ⟨S16x16x2x4x128x256, .f32⟩
  | 59 => ⟨S16x16x2x4x128x256, .f32⟩
  | 60 => ⟨S_, .f32⟩
  | 61 => ⟨S16x16x2x4x128, .f32⟩
  | 62 => ⟨S16x16x2x4x128x1, .f32⟩
  | 63 => ⟨S16x16x2x4x128x1, .f32⟩
  | 64 => ⟨S16x16x2x4x128x1, .f32⟩
  | 65 => ⟨S16x16x2x4x128x1, .f32⟩
  | 66 => ⟨S16x16x2x4x128x1, .f32⟩
  | 67 => ⟨S16x16x2x4x128x256, .f32⟩
  | 68 => ⟨S16x16x2x4x128x256, .f32⟩
  | 69 => ⟨S16x16x2x64x4x128, .f32⟩
  | 70 => ⟨S16x16x128x2x4x64, .f32⟩
  | 71 => ⟨S16x2048x512, .f32⟩
  | 72 => ⟨S512, .f32⟩
  | 73 => ⟨S16x2048x512, .f32⟩
  | 74 => ⟨S_, .f32⟩
  | 75 => ⟨S16x2048, .f32⟩
  | 76 => ⟨S16x2048x1, .f32⟩
  | 77 => ⟨S_, .f32⟩
  | 78 => ⟨S16x2048x1, .f32⟩
  | 79 => ⟨S16x2048x1, .f32⟩
  | 80 => ⟨S_, .f32⟩
  | 81 => ⟨S16x2048x1, .f32⟩
  | 82 => ⟨S16x2048x1, .f32⟩
  | 83 => ⟨S16x2048x1, .f32⟩
  | 84 => ⟨S16x2048x512, .f32⟩
  | 85 => ⟨S16x2048x512, .f32⟩
  | 86 => ⟨S1x1x512, .f32⟩
  | 87 => ⟨S16x2048x512, .f32⟩
  | 88 => ⟨S16x2048x512, .f32⟩
  | 89 => ⟨S1x512, .f32⟩
  | 90 => ⟨S512, .f32⟩
  | 91 => ⟨S4x128, .f32⟩
  | 92 => ⟨S_, .f32⟩
  | 93 => ⟨S4x128, .f32⟩
  | 94 => ⟨S4x128, .f32⟩
  | 95 => ⟨S16x2048x4x128, .f32⟩
  | 96 => ⟨S16x2048x4x128, .f32⟩
  | 97 => ⟨S16x2048x4x128, .f32⟩
  | 98 => ⟨S_, .f32⟩
  | 99 => ⟨S16x2048x4x128, .f32⟩
  | 100 => ⟨S16x2048x4x128, .f32⟩
  | 101 => ⟨S_, .f32⟩
  | 102 => ⟨S16x2048x4x128, .f32⟩
  | 103 => ⟨S16x2048x4x128, .f32⟩
  | 104 => ⟨S1x1x4x128, .f32⟩
  | 105 => ⟨S16x2048x4x128, .f32⟩
  | 106 => ⟨S16x2048x4x128, .f32⟩
  | 107 => ⟨S1x1x4x128, .f32⟩
  | 108 => ⟨S16x2048x4x128, .f32⟩
  | 109 => ⟨S16x2048x4x128, .f32⟩
  | 110 => ⟨S16x2048x4x128, .f32⟩
  | 111 => ⟨S16x2048x4x128, .f32⟩
  | 112 => ⟨S16x2048x4x128, .f32⟩
  | 113 => ⟨S_, .f32⟩
  | 114 => ⟨S16x2048x4x128, .f32⟩
  | 115 => ⟨S16x2048x4x128, .f32⟩
  | 116 => ⟨S_, .f32⟩
  | 117 => ⟨S16x2048x4x128, .f32⟩
  | 118 => ⟨S16x2048x4x128, .f32⟩
  | 119 => ⟨S16x2048x4x128, .f32⟩
  | 120 => ⟨S16x2048x4x128, .f32⟩
  | 121 => ⟨S_, .f32⟩
  | 122 => ⟨S16x2048x4x128, .f32⟩
  | 123 => ⟨S16x2048x4x128, .f32⟩
  | 124 => ⟨S16x2048x4x128, .f32⟩
  | 125 => ⟨S16x4x2048x128, .f32⟩
  | 126 => ⟨S16x4x2048x128, .f32⟩
  | 127 => ⟨S16x4x2048x128, .f32⟩
  | _ => ⟨S16x2048x1024, .f32⟩

abbrev hbmTy0_2 (i : Nat) : BufTy := match i % 128 with
  | 0 => ⟨S16x4x2048x128, .f32⟩
  | 1 => ⟨S_, .f32⟩
  | 2 => ⟨S_, .f32⟩
  | 3 => ⟨S16x4x2048x128, .f32⟩
  | 4 => ⟨S_, .i1⟩
  | 5 => ⟨S2048x2048, .i1⟩
  | 6 => ⟨S2048x2048, .i32⟩
  | 7 => ⟨S_, .i32⟩
  | 8 => ⟨S2048x2048, .i32⟩
  | 9 => ⟨S2048x2048, .i32⟩
  | 10 => ⟨S2048x2048, .i32⟩
  | 11 => ⟨S2048x2048, .i1⟩
  | 12 => ⟨S_, .i1⟩
  | 13 => ⟨S2048x2048, .i1⟩
  | 14 => ⟨S2048x2048, .i1⟩
  | 15 => ⟨S16x4x2048x128, .f32⟩
  | 16 => ⟨S16x4x2048x128, .f32⟩
  | 17 => ⟨S16x4x2048x128, .f32⟩
  | 18 => ⟨S16x4x2048x128, .f32⟩
  | 19 => ⟨S16x4x2048x128, .f32⟩
  | 20 => ⟨S16x4x2048x2048, .f32⟩
  | 21 => ⟨S_, .f32⟩
  | 22 => ⟨S_, .f32⟩
  | 23 => ⟨S16x4x2048x2048, .i1⟩
  | 24 => ⟨S16x4x2048x2048, .f32⟩
  | 25 => ⟨S16x4x2048x2048, .f32⟩
  | 26 => ⟨S16x4x2048x128, .f32⟩
  | 27 => ⟨S16x2048x4x128, .f32⟩
  | 28 => ⟨S128, .f32⟩
  | 29 => ⟨S16x2048x4x128, .f32⟩
  | 30 => ⟨S_, .f32⟩
  | 31 => ⟨S16x2048x4, .f32⟩
  | 32 => ⟨S16x2048x4x1, .f32⟩
  | 33 => ⟨S_, .f32⟩
  | 34 => ⟨S16x2048x4x1, .f32⟩
  | 35 => ⟨S16x2048x4x1, .f32⟩
  | 36 => ⟨S_, .f32⟩
  | 37 => ⟨S16x2048x4x1, .f32⟩
  | 38 => ⟨S16x2048x4x1, .f32⟩
  | 39 => ⟨S16x2048x4x1, .f32⟩
  | 40 => ⟨S16x2048x4x128, .f32⟩
  | 41 => ⟨S16x2048x4x128, .f32⟩
  | 42 => ⟨S1x1x1x128, .f32⟩
  | 43 => ⟨S16x2048x4x128, .f32⟩
  | 44 => ⟨S16x2048x4x128, .f32⟩
  | 45 => ⟨S16x2048x4x128, .f32⟩
  | 46 => ⟨S16x2048x4x128, .f32⟩
  | 47 => ⟨S16x2048x4x128, .f32⟩
  | 48 => ⟨S_, .f32⟩
  | 49 => ⟨S16x2048x4x128, .f32⟩
  | 50 => ⟨S16x2048x4x128, .f32⟩
  | 51 => ⟨S_, .f32⟩
  | 52 => ⟨S16x2048x4x128, .f32⟩
  | 53 => ⟨S16x2048x4x128, .f32⟩
  | 54 => ⟨S16x2048x4x128, .f32⟩
  | 55 => ⟨S16x2048x4x128, .f32⟩
  | 56 => ⟨S16x2048x512, .f32⟩
  | 57 => ⟨S16x2048x1024, .f32⟩
  | 58 => ⟨S1024x1024, .f32⟩
  | 59 => ⟨S16x2048x1024, .f32⟩
  | 60 => ⟨S1024, .f32⟩
  | 61 => ⟨S16x2048x1024, .f32⟩
  | 62 => ⟨S_, .f32⟩
  | 63 => ⟨S16x2048, .f32⟩
  | 64 => ⟨S16x2048x1, .f32⟩
  | 65 => ⟨S_, .f32⟩
  | 66 => ⟨S16x2048x1, .f32⟩
  | 67 => ⟨S16x2048x1, .f32⟩
  | 68 => ⟨S_, .f32⟩
  | 69 => ⟨S16x2048x1, .f32⟩
  | 70 => ⟨S16x2048x1, .f32⟩
  | 71 => ⟨S16x2048x1, .f32⟩
  | 72 => ⟨S16x2048x1024, .f32⟩
  | 73 => ⟨S16x2048x1024, .f32⟩
  | 74 => ⟨S1x1x1024, .f32⟩
  | 75 => ⟨S16x2048x1024, .f32⟩
  | 76 => ⟨S16x2048x1024, .f32⟩
  | 77 => ⟨S16x2048x1024, .f32⟩
  | 78 => ⟨S16x2048x1024, .f32⟩
  | 79 => ⟨S16x2048x1024, .f32⟩
  | 80 => ⟨S1024x4096, .f32⟩
  | 81 => ⟨S1024x4096, .bf16⟩
  | 82 => ⟨S4096x1024, .f32⟩
  | 83 => ⟨S4096x1024, .bf16⟩
  | _ => ⟨S16x2048x1024, .f32⟩

abbrev hbmTy (i : Nat) : BufTy := match i / 128 with
  | 0 => hbmTy0_0 i
  | 1 => hbmTy0_1 i
  | 2 => hbmTy0_2 i
  | _ => ⟨S16x2048x1024, .f32⟩

abbrev bufTy : (tb : Table) → Fin (tcTables nBuf tb) → BufTy
  | .hbm, ⟨i, _⟩ => hbmTy i
  | _, _ => ⟨S16x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_cst : Ref sig .tc := ⟨.hbm, 14, rfl⟩
abbrev main_v0 : Ref sig .tc := ⟨.hbm, 15, rfl⟩
abbrev main_cst_0 : Ref sig .tc := ⟨.hbm, 16, rfl⟩
abbrev main_v1 : Ref sig .tc := ⟨.hbm, 17, rfl⟩
abbrev main_v2 : Ref sig .tc := ⟨.hbm, 18, rfl⟩
abbrev main_v3 : Ref sig .tc := ⟨.hbm, 19, rfl⟩
abbrev main_v4 : Ref sig .tc := ⟨.hbm, 20, rfl⟩
abbrev main_v5 : Ref sig .tc := ⟨.hbm, 21, rfl⟩
abbrev main_v6 : Ref sig .tc := ⟨.hbm, 22, rfl⟩
abbrev main_cst_1 : Ref sig .tc := ⟨.hbm, 23, rfl⟩
abbrev main_v7 : Ref sig .tc := ⟨.hbm, 24, rfl⟩
abbrev main_v8 : Ref sig .tc := ⟨.hbm, 25, rfl⟩
abbrev main_v9 : Ref sig .tc := ⟨.hbm, 26, rfl⟩
abbrev main_v10 : Ref sig .tc := ⟨.hbm, 27, rfl⟩
abbrev main_call0_call0_cst : Ref sig .tc := ⟨.hbm, 28, rfl⟩
abbrev main_call0_call0_v0 : Ref sig .tc := ⟨.hbm, 29, rfl⟩
abbrev main_v11 : Ref sig .tc := ⟨.hbm, 30, rfl⟩
abbrev main_v12 : Ref sig .tc := ⟨.hbm, 31, rfl⟩
abbrev main_v13 : Ref sig .tc := ⟨.hbm, 32, rfl⟩
abbrev main_v14 : Ref sig .tc := ⟨.hbm, 33, rfl⟩
abbrev main_v15 : Ref sig .tc := ⟨.hbm, 34, rfl⟩
abbrev main_v16 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_cst_2 : Ref sig .tc := ⟨.hbm, 48, rfl⟩
abbrev main_v29 : Ref sig .tc := ⟨.hbm, 49, rfl⟩
abbrev main_v30 : Ref sig .tc := ⟨.hbm, 50, rfl⟩
abbrev main_cst_3 : Ref sig .tc := ⟨.hbm, 51, rfl⟩
abbrev main_v31 : Ref sig .tc := ⟨.hbm, 52, rfl⟩
abbrev main_v32 : Ref sig .tc := ⟨.hbm, 53, rfl⟩
abbrev main_cst_4 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_cst_5 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_v59 : Ref sig .tc := ⟨.hbm, 82, rfl⟩
abbrev main_v60 : Ref sig .tc := ⟨.hbm, 83, rfl⟩
abbrev main_v61 : Ref sig .tc := ⟨.hbm, 84, rfl⟩
abbrev main_v62 : Ref sig .tc := ⟨.hbm, 85, rfl⟩
abbrev main_v63 : Ref sig .tc := ⟨.hbm, 86, rfl⟩
abbrev main_v64 : Ref sig .tc := ⟨.hbm, 87, rfl⟩
abbrev main_v65 : Ref sig .tc := ⟨.hbm, 88, rfl⟩
abbrev main_v66 : Ref sig .tc := ⟨.hbm, 89, rfl⟩
abbrev main_v67 : Ref sig .tc := ⟨.hbm, 90, rfl⟩
abbrev main_v68 : Ref sig .tc := ⟨.hbm, 91, rfl⟩
abbrev main_v69 : Ref sig .tc := ⟨.hbm, 92, rfl⟩
abbrev main_v70 : Ref sig .tc := ⟨.hbm, 93, rfl⟩
abbrev main_v71 : Ref sig .tc := ⟨.hbm, 94, rfl⟩
abbrev main_v72 : Ref sig .tc := ⟨.hbm, 95, rfl⟩
abbrev main_v73 : Ref sig .tc := ⟨.hbm, 96, rfl⟩
abbrev main_v74 : Ref sig .tc := ⟨.hbm, 97, rfl⟩
abbrev main_v75 : Ref sig .tc := ⟨.hbm, 98, rfl⟩
abbrev main_v76 : Ref sig .tc := ⟨.hbm, 99, rfl⟩
abbrev main_v77 : Ref sig .tc := ⟨.hbm, 100, rfl⟩
abbrev main_v78 : Ref sig .tc := ⟨.hbm, 101, rfl⟩
abbrev main_v79 : Ref sig .tc := ⟨.hbm, 102, rfl⟩
abbrev main_v80 : Ref sig .tc := ⟨.hbm, 103, rfl⟩
abbrev main_v81 : Ref sig .tc := ⟨.hbm, 104, rfl⟩
abbrev main_v82 : Ref sig .tc := ⟨.hbm, 105, rfl⟩
abbrev main_v83 : Ref sig .tc := ⟨.hbm, 106, rfl⟩
abbrev main_v84 : Ref sig .tc := ⟨.hbm, 107, rfl⟩
abbrev main_v85 : Ref sig .tc := ⟨.hbm, 108, rfl⟩
abbrev main_v86 : Ref sig .tc := ⟨.hbm, 109, rfl⟩
abbrev main_v87 : Ref sig .tc := ⟨.hbm, 110, rfl⟩
abbrev main_v88 : Ref sig .tc := ⟨.hbm, 111, rfl⟩
abbrev main_v89 : Ref sig .tc := ⟨.hbm, 112, rfl⟩
abbrev main_v90 : Ref sig .tc := ⟨.hbm, 113, rfl⟩
abbrev main_v91 : Ref sig .tc := ⟨.hbm, 114, rfl⟩
abbrev main_v92 : Ref sig .tc := ⟨.hbm, 115, rfl⟩
abbrev main_v93 : Ref sig .tc := ⟨.hbm, 116, rfl⟩
abbrev main_c : Ref sig .tc := ⟨.hbm, 117, rfl⟩
abbrev main_call1_v0 : Ref sig .tc := ⟨.hbm, 118, rfl⟩
abbrev main_v94 : Ref sig .tc := ⟨.hbm, 119, rfl⟩
abbrev main_v95 : Ref sig .tc := ⟨.hbm, 120, rfl⟩
abbrev main_v96 : Ref sig .tc := ⟨.hbm, 121, rfl⟩
abbrev main_v97 : Ref sig .tc := ⟨.hbm, 122, rfl⟩
abbrev main_c_6 : Ref sig .tc := ⟨.hbm, 123, rfl⟩
abbrev main_call2_v0 : Ref sig .tc := ⟨.hbm, 124, rfl⟩
abbrev main_v98 : Ref sig .tc := ⟨.hbm, 125, rfl⟩
abbrev main_v99 : Ref sig .tc := ⟨.hbm, 126, rfl⟩
abbrev main_v100 : Ref sig .tc := ⟨.hbm, 127, rfl⟩
abbrev main_v101 : Ref sig .tc := ⟨.hbm, 128, rfl⟩
abbrev main_v102 : Ref sig .tc := ⟨.hbm, 129, rfl⟩
abbrev main_cst_7 : Ref sig .tc := ⟨.hbm, 130, rfl⟩
abbrev main_v103 : Ref sig .tc := ⟨.hbm, 131, rfl⟩
abbrev main_v104 : Ref sig .tc := ⟨.hbm, 132, rfl⟩
abbrev main_v105 : Ref sig .tc := ⟨.hbm, 133, rfl⟩
abbrev main_v106 : Ref sig .tc := ⟨.hbm, 134, rfl⟩
abbrev main_c_8 : Ref sig .tc := ⟨.hbm, 135, rfl⟩
abbrev main_v107 : Ref sig .tc := ⟨.hbm, 136, rfl⟩
abbrev main_v108 : Ref sig .tc := ⟨.hbm, 137, rfl⟩
abbrev main_v109 : Ref sig .tc := ⟨.hbm, 138, rfl⟩
abbrev main_v110 : Ref sig .tc := ⟨.hbm, 139, rfl⟩
abbrev main_v111 : Ref sig .tc := ⟨.hbm, 140, rfl⟩
abbrev main_v112 : Ref sig .tc := ⟨.hbm, 141, rfl⟩
abbrev main_v113 : Ref sig .tc := ⟨.hbm, 142, rfl⟩
abbrev main_c_9 : Ref sig .tc := ⟨.hbm, 143, rfl⟩
abbrev main_v114 : Ref sig .tc := ⟨.hbm, 144, rfl⟩
abbrev main_v115 : Ref sig .tc := ⟨.hbm, 145, rfl⟩
abbrev main_c_10 : Ref sig .tc := ⟨.hbm, 146, rfl⟩
abbrev main_v116 : Ref sig .tc := ⟨.hbm, 147, rfl⟩
abbrev main_v117 : Ref sig .tc := ⟨.hbm, 148, rfl⟩
abbrev main_v118 : Ref sig .tc := ⟨.hbm, 149, rfl⟩
abbrev main_v119 : Ref sig .tc := ⟨.hbm, 150, rfl⟩
abbrev main_v120 : Ref sig .tc := ⟨.hbm, 151, rfl⟩
abbrev main_v121 : Ref sig .tc := ⟨.hbm, 152, rfl⟩
abbrev main_v122 : Ref sig .tc := ⟨.hbm, 153, rfl⟩
abbrev main_v123 : Ref sig .tc := ⟨.hbm, 154, rfl⟩
abbrev main_v124 : Ref sig .tc := ⟨.hbm, 155, rfl⟩
abbrev main_v125 : Ref sig .tc := ⟨.hbm, 156, rfl⟩
abbrev main_v126 : Ref sig .tc := ⟨.hbm, 157, rfl⟩
abbrev main_v127 : Ref sig .tc := ⟨.hbm, 158, rfl⟩
abbrev main_c_11 : Ref sig .tc := ⟨.hbm, 159, rfl⟩
abbrev main_v128 : Ref sig .tc := ⟨.hbm, 160, rfl⟩
abbrev main_v129 : Ref sig .tc := ⟨.hbm, 161, rfl⟩
abbrev main_c_12 : Ref sig .tc := ⟨.hbm, 162, rfl⟩
abbrev main_v130 : Ref sig .tc := ⟨.hbm, 163, rfl⟩
abbrev main_v131 : Ref sig .tc := ⟨.hbm, 164, rfl⟩
abbrev main_v132 : Ref sig .tc := ⟨.hbm, 165, rfl⟩
abbrev main_v133 : Ref sig .tc := ⟨.hbm, 166, rfl⟩
abbrev main_c_13 : Ref sig .tc := ⟨.hbm, 167, rfl⟩
abbrev main_v134 : Ref sig .tc := ⟨.hbm, 168, rfl⟩
abbrev main_v135 : Ref sig .tc := ⟨.hbm, 169, rfl⟩
abbrev main_v136 : Ref sig .tc := ⟨.hbm, 170, rfl⟩
abbrev main_v137 : Ref sig .tc := ⟨.hbm, 171, rfl⟩
abbrev main_v138 : Ref sig .tc := ⟨.hbm, 172, rfl⟩
abbrev main_cst_14 : Ref sig .tc := ⟨.hbm, 173, rfl⟩
abbrev main_call3_v0 : Ref sig .tc := ⟨.hbm, 174, rfl⟩
abbrev main_call3_v1 : Ref sig .tc := ⟨.hbm, 175, rfl⟩
abbrev main_call3_v2 : Ref sig .tc := ⟨.hbm, 176, rfl⟩
abbrev main_v139 : Ref sig .tc := ⟨.hbm, 177, rfl⟩
abbrev main_v140 : Ref sig .tc := ⟨.hbm, 178, rfl⟩
abbrev main_v141 : Ref sig .tc := ⟨.hbm, 179, rfl⟩
abbrev main_cst_15 : Ref sig .tc := ⟨.hbm, 180, rfl⟩
abbrev main_v142 : Ref sig .tc := ⟨.hbm, 181, rfl⟩
abbrev main_v143 : Ref sig .tc := ⟨.hbm, 182, rfl⟩
abbrev main_v144 : Ref sig .tc := ⟨.hbm, 183, rfl⟩
abbrev main_v145 : Ref sig .tc := ⟨.hbm, 184, rfl⟩
abbrev main_v146 : Ref sig .tc := ⟨.hbm, 185, rfl⟩
abbrev main_v147 : Ref sig .tc := ⟨.hbm, 186, rfl⟩
abbrev main_v148 : Ref sig .tc := ⟨.hbm, 187, rfl⟩
abbrev main_cst_16 : Ref sig .tc := ⟨.hbm, 188, rfl⟩
abbrev main_v149 : Ref sig .tc := ⟨.hbm, 189, rfl⟩
abbrev main_v150 : Ref sig .tc := ⟨.hbm, 190, rfl⟩
abbrev main_v151 : Ref sig .tc := ⟨.hbm, 191, rfl⟩
abbrev main_v152 : Ref sig .tc := ⟨.hbm, 192, rfl⟩
abbrev main_v153 : Ref sig .tc := ⟨.hbm, 193, rfl⟩
abbrev main_v154 : Ref sig .tc := ⟨.hbm, 194, rfl⟩
abbrev main_v155 : Ref sig .tc := ⟨.hbm, 195, rfl⟩
abbrev main_v156 : Ref sig .tc := ⟨.hbm, 196, rfl⟩
abbrev main_v157 : Ref sig .tc := ⟨.hbm, 197, rfl⟩
abbrev main_v158 : Ref sig .tc := ⟨.hbm, 198, rfl⟩
abbrev main_v159 : Ref sig .tc := ⟨.hbm, 199, rfl⟩
abbrev main_v160 : Ref sig .tc := ⟨.hbm, 200, rfl⟩
abbrev main_v161 : Ref sig .tc := ⟨.hbm, 201, rfl⟩
abbrev main_cst_17 : Ref sig .tc := ⟨.hbm, 202, rfl⟩
abbrev main_v162 : Ref sig .tc := ⟨.hbm, 203, rfl⟩
abbrev main_v163 : Ref sig .tc := ⟨.hbm, 204, rfl⟩
abbrev main_cst_18 : Ref sig .tc := ⟨.hbm, 205, rfl⟩
abbrev main_v164 : Ref sig .tc := ⟨.hbm, 206, rfl⟩
abbrev main_v165 : Ref sig .tc := ⟨.hbm, 207, rfl⟩
abbrev main_cst_19 : Ref sig .tc := ⟨.hbm, 208, rfl⟩
abbrev main_v166 : Ref sig .tc := ⟨.hbm, 209, rfl⟩
abbrev main_v167 : Ref sig .tc := ⟨.hbm, 210, rfl⟩
abbrev main_v168 : Ref sig .tc := ⟨.hbm, 211, rfl⟩
abbrev main_v169 : Ref sig .tc := ⟨.hbm, 212, rfl⟩
abbrev main_v170 : Ref sig .tc := ⟨.hbm, 213, rfl⟩
abbrev main_v171 : Ref sig .tc := ⟨.hbm, 214, rfl⟩
abbrev main_v172 : Ref sig .tc := ⟨.hbm, 215, rfl⟩
abbrev main_v173 : Ref sig .tc := ⟨.hbm, 216, rfl⟩
abbrev main_v174 : Ref sig .tc := ⟨.hbm, 217, rfl⟩
abbrev main_v175 : Ref sig .tc := ⟨.hbm, 218, rfl⟩
abbrev main_v176 : Ref sig .tc := ⟨.hbm, 219, rfl⟩
abbrev main_cst_20 : Ref sig .tc := ⟨.hbm, 220, rfl⟩
abbrev main_v177 : Ref sig .tc := ⟨.hbm, 221, rfl⟩
abbrev main_v178 : Ref sig .tc := ⟨.hbm, 222, rfl⟩
abbrev main_v179 : Ref sig .tc := ⟨.hbm, 223, rfl⟩
abbrev main_v180 : Ref sig .tc := ⟨.hbm, 224, rfl⟩
abbrev main_v181 : Ref sig .tc := ⟨.hbm, 225, rfl⟩
abbrev main_cst_21 : Ref sig .tc := ⟨.hbm, 226, rfl⟩
abbrev main_v182 : Ref sig .tc := ⟨.hbm, 227, rfl⟩
abbrev main_v183 : Ref sig .tc := ⟨.hbm, 228, rfl⟩
abbrev main_cst_22 : Ref sig .tc := ⟨.hbm, 229, rfl⟩
abbrev main_v184 : Ref sig .tc := ⟨.hbm, 230, rfl⟩
abbrev main_v185 : Ref sig .tc := ⟨.hbm, 231, rfl⟩
abbrev main_v186 : Ref sig .tc := ⟨.hbm, 232, rfl⟩
abbrev main_v187 : Ref sig .tc := ⟨.hbm, 233, rfl⟩
abbrev main_v188 : Ref sig .tc := ⟨.hbm, 234, rfl⟩
abbrev main_v189 : Ref sig .tc := ⟨.hbm, 235, rfl⟩
abbrev main_v190 : Ref sig .tc := ⟨.hbm, 236, rfl⟩
abbrev main_v191 : Ref sig .tc := ⟨.hbm, 237, rfl⟩
abbrev main_v192 : Ref sig .tc := ⟨.hbm, 238, rfl⟩
abbrev main_call4_v0 : Ref sig .tc := ⟨.hbm, 239, rfl⟩
abbrev main_call4_v1 : Ref sig .tc := ⟨.hbm, 240, rfl⟩
abbrev main_call4_cst : Ref sig .tc := ⟨.hbm, 241, rfl⟩
abbrev main_call4_v2 : Ref sig .tc := ⟨.hbm, 242, rfl⟩
abbrev main_call4_v3 : Ref sig .tc := ⟨.hbm, 243, rfl⟩
abbrev main_call4_cst_0 : Ref sig .tc := ⟨.hbm, 244, rfl⟩
abbrev main_call4_v4 : Ref sig .tc := ⟨.hbm, 245, rfl⟩
abbrev main_call4_v5 : Ref sig .tc := ⟨.hbm, 246, rfl⟩
abbrev main_v193 : Ref sig .tc := ⟨.hbm, 247, rfl⟩
abbrev main_v194 : Ref sig .tc := ⟨.hbm, 248, rfl⟩
abbrev main_cst_23 : Ref sig .tc := ⟨.hbm, 249, rfl⟩
abbrev main_v195 : Ref sig .tc := ⟨.hbm, 250, rfl⟩
abbrev main_v196 : Ref sig .tc := ⟨.hbm, 251, rfl⟩
abbrev main_v197 : Ref sig .tc := ⟨.hbm, 252, rfl⟩
abbrev main_v198 : Ref sig .tc := ⟨.hbm, 253, rfl⟩
abbrev main_v199 : Ref sig .tc := ⟨.hbm, 254, rfl⟩
abbrev main_v200 : Ref sig .tc := ⟨.hbm, 255, rfl⟩
abbrev main_v201 : Ref sig .tc := ⟨.hbm, 256, rfl⟩
abbrev main_call5_call0_cst : Ref sig .tc := ⟨.hbm, 257, rfl⟩
abbrev main_call5_call0_v0 : Ref sig .tc := ⟨.hbm, 258, rfl⟩
abbrev main_v202 : Ref sig .tc := ⟨.hbm, 259, rfl⟩
abbrev main_c_24 : Ref sig .tc := ⟨.hbm, 260, rfl⟩
abbrev main_v203 : Ref sig .tc := ⟨.hbm, 261, rfl⟩
abbrev main_call6_v0 : Ref sig .tc := ⟨.hbm, 262, rfl⟩
abbrev main_call6_c : Ref sig .tc := ⟨.hbm, 263, rfl⟩
abbrev main_call6_v1 : Ref sig .tc := ⟨.hbm, 264, rfl⟩
abbrev main_call6_v2 : Ref sig .tc := ⟨.hbm, 265, rfl⟩
abbrev main_call6_v3 : Ref sig .tc := ⟨.hbm, 266, rfl⟩
abbrev main_call6_v4 : Ref sig .tc := ⟨.hbm, 267, rfl⟩
abbrev main_call6_c_0 : Ref sig .tc := ⟨.hbm, 268, rfl⟩
abbrev main_call6_v5 : Ref sig .tc := ⟨.hbm, 269, rfl⟩
abbrev main_v204 : Ref sig .tc := ⟨.hbm, 270, rfl⟩
abbrev main_v205 : Ref sig .tc := ⟨.hbm, 271, rfl⟩
abbrev main_v206 : Ref sig .tc := ⟨.hbm, 272, rfl⟩
abbrev main_v207 : Ref sig .tc := ⟨.hbm, 273, rfl⟩
abbrev main_v208 : Ref sig .tc := ⟨.hbm, 274, rfl⟩
abbrev main_v209 : Ref sig .tc := ⟨.hbm, 275, rfl⟩
abbrev main_v210 : Ref sig .tc := ⟨.hbm, 276, rfl⟩
abbrev main_cst_25 : Ref sig .tc := ⟨.hbm, 277, rfl⟩
abbrev main_call7_v0 : Ref sig .tc := ⟨.hbm, 278, rfl⟩
abbrev main_call7_v1 : Ref sig .tc := ⟨.hbm, 279, rfl⟩
abbrev main_call7_v2 : Ref sig .tc := ⟨.hbm, 280, rfl⟩
abbrev main_v211 : Ref sig .tc := ⟨.hbm, 281, rfl⟩
abbrev main_v212 : Ref sig .tc := ⟨.hbm, 282, rfl⟩
abbrev main_v213 : Ref sig .tc := ⟨.hbm, 283, rfl⟩
abbrev main_v214 : Ref sig .tc := ⟨.hbm, 284, rfl⟩
abbrev main_v215 : Ref sig .tc := ⟨.hbm, 285, rfl⟩
abbrev main_cst_26 : Ref sig .tc := ⟨.hbm, 286, rfl⟩
abbrev main_v216 : Ref sig .tc := ⟨.hbm, 287, rfl⟩
abbrev main_v217 : Ref sig .tc := ⟨.hbm, 288, rfl⟩
abbrev main_cst_27 : Ref sig .tc := ⟨.hbm, 289, rfl⟩
abbrev main_v218 : Ref sig .tc := ⟨.hbm, 290, rfl⟩
abbrev main_v219 : Ref sig .tc := ⟨.hbm, 291, rfl⟩
abbrev main_cst_28 : Ref sig .tc := ⟨.hbm, 292, rfl⟩
abbrev main_v220 : Ref sig .tc := ⟨.hbm, 293, rfl⟩
abbrev main_v221 : Ref sig .tc := ⟨.hbm, 294, rfl⟩
abbrev main_v222 : Ref sig .tc := ⟨.hbm, 295, rfl⟩
abbrev main_v223 : Ref sig .tc := ⟨.hbm, 296, rfl⟩
abbrev main_v224 : Ref sig .tc := ⟨.hbm, 297, rfl⟩
abbrev main_v225 : Ref sig .tc := ⟨.hbm, 298, rfl⟩
abbrev main_v226 : Ref sig .tc := ⟨.hbm, 299, rfl⟩
abbrev main_v227 : Ref sig .tc := ⟨.hbm, 300, rfl⟩
abbrev main_v228 : Ref sig .tc := ⟨.hbm, 301, rfl⟩
abbrev main_call8_v0 : Ref sig .tc := ⟨.hbm, 302, rfl⟩
abbrev main_call8_v1 : Ref sig .tc := ⟨.hbm, 303, rfl⟩
abbrev main_call8_cst : Ref sig .tc := ⟨.hbm, 304, rfl⟩
abbrev main_call8_v2 : Ref sig .tc := ⟨.hbm, 305, rfl⟩
abbrev main_call8_v3 : Ref sig .tc := ⟨.hbm, 306, rfl⟩
abbrev main_call8_cst_0 : Ref sig .tc := ⟨.hbm, 307, rfl⟩
abbrev main_call8_v4 : Ref sig .tc := ⟨.hbm, 308, rfl⟩
abbrev main_call8_v5 : Ref sig .tc := ⟨.hbm, 309, rfl⟩
abbrev main_v229 : Ref sig .tc := ⟨.hbm, 310, rfl⟩
abbrev main_v230 : Ref sig .tc := ⟨.hbm, 311, rfl⟩
abbrev main_v231 : Ref sig .tc := ⟨.hbm, 312, rfl⟩
abbrev main_v232 : Ref sig .tc := ⟨.hbm, 313, rfl⟩
abbrev main_v233 : Ref sig .tc := ⟨.hbm, 314, rfl⟩
abbrev main_v234 : Ref sig .tc := ⟨.hbm, 315, rfl⟩
abbrev main_v235 : Ref sig .tc := ⟨.hbm, 316, rfl⟩
abbrev main_v236 : Ref sig .tc := ⟨.hbm, 317, rfl⟩
abbrev main_cst_29 : Ref sig .tc := ⟨.hbm, 318, rfl⟩
abbrev main_v237 : Ref sig .tc := ⟨.hbm, 319, rfl⟩
abbrev main_v238 : Ref sig .tc := ⟨.hbm, 320, rfl⟩
abbrev main_cst_30 : Ref sig .tc := ⟨.hbm, 321, rfl⟩
abbrev main_v239 : Ref sig .tc := ⟨.hbm, 322, rfl⟩
abbrev main_v240 : Ref sig .tc := ⟨.hbm, 323, rfl⟩
abbrev main_cst_31 : Ref sig .tc := ⟨.hbm, 324, rfl⟩
abbrev main_v241 : Ref sig .tc := ⟨.hbm, 325, rfl⟩
abbrev main_v242 : Ref sig .tc := ⟨.hbm, 326, rfl⟩
abbrev main_v243 : Ref sig .tc := ⟨.hbm, 327, rfl⟩
abbrev main_v244 : Ref sig .tc := ⟨.hbm, 328, rfl⟩
abbrev main_v245 : Ref sig .tc := ⟨.hbm, 329, rfl⟩
abbrev main_v246 : Ref sig .tc := ⟨.hbm, 330, rfl⟩
abbrev main_v247 : Ref sig .tc := ⟨.hbm, 331, rfl⟩
abbrev main_v248 : Ref sig .tc := ⟨.hbm, 332, rfl⟩
abbrev main_v249 : Ref sig .tc := ⟨.hbm, 333, rfl⟩
abbrev main_v250 : Ref sig .tc := ⟨.hbm, 334, rfl⟩
abbrev main_v251 : Ref sig .tc := ⟨.hbm, 335, rfl⟩
abbrev main_v252 : Ref sig .tc := ⟨.hbm, 336, rfl⟩
abbrev main_v253 : Ref sig .tc := ⟨.hbm, 337, rfl⟩
abbrev main_v254 : Ref sig .tc := ⟨.hbm, 338, rfl⟩
abbrev main_v255 : Ref sig .tc := ⟨.hbm, 339, rfl⟩

abbrev nD : Nat := 1
abbrev τ : Topo := Topo.v7x

variable {F : FTy → Type} [FloatOps F]
-- ==== Mlp.lean ====
abbrev S16x2048x1024 : Shape := ⟨3, ![16, 2048, 1024]⟩
abbrev S16x6144 : Shape := ⟨2, ![16, 6144]⟩
abbrev S1x1024 : Shape := ⟨2, ![1, 1024]⟩
abbrev S1024x4096 : Shape := ⟨2, ![1024, 4096]⟩
abbrev S4096x1024 : Shape := ⟨2, ![4096, 1024]⟩
abbrev S1024 : Shape := ⟨1, ![1024]⟩
abbrev S1x1024x1024 : Shape := ⟨3, ![1, 1024, 1024]⟩
abbrev S1x256x1024 : Shape := ⟨3, ![1, 256, 1024]⟩
abbrev S256x1024 : Shape := ⟨2, ![256, 1024]⟩
abbrev S256 : Shape := ⟨1, ![256]⟩
abbrev S256x1 : Shape := ⟨2, ![256, 1]⟩
abbrev S256x4096 : Shape := ⟨2, ![256, 4096]⟩
abbrev S512x4096 : Shape := ⟨2, ![512, 4096]⟩
abbrev S1x512x1024 : Shape := ⟨3, ![1, 512, 1024]⟩
abbrev S512x1024 : Shape := ⟨2, ![512, 1024]⟩
abbrev S512 : Shape := ⟨1, ![512]⟩
abbrev S512x1 : Shape := ⟨2, ![512, 1]⟩

abbrev nBuf : Space → Nat
  | .hbm => 11
  | .vmem => 9
  | .smem => 0
  | _ => 0

abbrev bufTy : (tb : Table) → Fin (tcTables nBuf tb) → BufTy
  | .hbm, ⟨0, _⟩ => ⟨S16x2048x1024, .f32⟩
  | .hbm, ⟨1, _⟩ => ⟨S16x6144, .f32⟩
  | .hbm, ⟨2, _⟩ => ⟨S1x1024, .f32⟩
  | .hbm, ⟨3, _⟩ => ⟨S1024x4096, .bf16⟩
  | .hbm, ⟨4, _⟩ => ⟨S4096x1024, .bf16⟩
  | .hbm, ⟨5, _⟩ => ⟨S1x1024, .f32⟩
  | .hbm, ⟨6, _⟩ => ⟨S1024, .f32⟩
  | .hbm, ⟨7, _⟩ => ⟨S1x1024, .f32⟩
  | .hbm, ⟨8, _⟩ => ⟨S1024, .f32⟩
  | .hbm, ⟨9, _⟩ => ⟨S1x1024, .f32⟩
  | .hbm, ⟨10, _⟩ => ⟨S16x2048x1024, .f32⟩
  | .local _ .vmem, ⟨0, _⟩ => ⟨S1x1024x1024, .f32⟩
  | .local _ .vmem, ⟨1, _⟩ => ⟨S1x1024x1024, .f32⟩
  | .local _ .vmem, ⟨2, _⟩ => ⟨S16x6144, .f32⟩
  | .local _ .vmem, ⟨3, _⟩ => ⟨S1x1024, .f32⟩
  | .local _ .vmem, ⟨4, _⟩ => ⟨S1024x4096, .bf16⟩
  | .local _ .vmem, ⟨5, _⟩ => ⟨S4096x1024, .bf16⟩
  | .local _ .vmem, ⟨6, _⟩ => ⟨S1x1024, .f32⟩
  | .local _ .vmem, ⟨7, _⟩ => ⟨S1x1024x1024, .f32⟩
  | .local _ .vmem, ⟨8, _⟩ => ⟨S1x1024x1024, .f32⟩
  | _, _ => ⟨S16x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg6_1 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem6_1 : DmaSem sig := 8

abbrev nD : Nat := 1
abbrev τ : Topo := Topo.v7x

variable {F : FTy → Type} [FloatOps F]

abbrev grid0 : Pipeline.Grid := ⟨2, ![16, 2], ![false, false]⟩

def k0_off1 (i : grid0.Coords) : Fin 2 → Nat :=
  let arg0 : BitVec 32 := BitVec.ofNat 32 (i 0).val
  let v0 : Index := Scalar.indexCast arg0
  let c3072 : Index := 3072#32
  ![v0.toNat, 3072]
def k0_off2 (i : grid0.Coords) : Fin 2 → Nat :=
  let arg0 : BitVec 32 := BitVec.ofNat 32 (i 0).val
  let v2 : Index := Scalar.indexCast arg0
  let c4096 : Index := 4096#32
  ![v2.toNat, 4096]
def k0_off3 (i : grid0.Coords) : Fin 2 → Nat :=
  let arg0 : BitVec 32 := BitVec.ofNat 32 (i 0).val
  let v4 : Index := Scalar.indexCast arg0
  let c5120 : Index := 5120#32
  ![v4.toNat, 5120]
def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S16x6144 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1024x4096 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S4096x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S1x1024x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== MlpRefIdeal.lean ====
abbrev S16x2048x1024 : Shape := ⟨3, ![16, 2048, 1024]⟩
abbrev S16x6144 : Shape := ⟨2, ![16, 6144]⟩
abbrev S1x1024 : Shape := ⟨2, ![1, 1024]⟩
abbrev S1024x4096 : Shape := ⟨2, ![1024, 4096]⟩
abbrev S4096x1024 : Shape := ⟨2, ![4096, 1024]⟩
abbrev S16x1024 : Shape := ⟨2, ![16, 1024]⟩
abbrev S16x1x1024 : Shape := ⟨3, ![16, 1, 1024]⟩
abbrev S1024 : Shape := ⟨1, ![1024]⟩
abbrev S_ : Shape := ⟨0, ![]⟩
abbrev S16x2048 : Shape := ⟨2, ![16, 2048]⟩
abbrev S16x2048x1 : Shape := ⟨3, ![16, 2048, 1]⟩
abbrev S1x1x1024 : Shape := ⟨3, ![1, 1, 1024]⟩
abbrev S16x2048x4096 : Shape := ⟨3, ![16, 2048, 4096]⟩

abbrev nBuf : Space → Nat
  | .hbm => 70
  | .vmem => 0
  | .smem => 0
  | _ => 0

abbrev bufTy : (tb : Table) → Fin (tcTables nBuf tb) → BufTy
  | .hbm, ⟨0, _⟩ => ⟨S16x2048x1024, .f32⟩
  | .hbm, ⟨1, _⟩ => ⟨S16x6144, .f32⟩
  | .hbm, ⟨2, _⟩ => ⟨S1x1024, .f32⟩
  | .hbm, ⟨3, _⟩ => ⟨S1024x4096, .bf16⟩
  | .hbm, ⟨4, _⟩ => ⟨S4096x1024, .bf16⟩
  | .hbm, ⟨5, _⟩ => ⟨S1x1024, .f32⟩
  | .hbm, ⟨6, _⟩ => ⟨S16x1024, .f32⟩
  | .hbm, ⟨7, _⟩ => ⟨S16x1024, .f32⟩
  | .hbm, ⟨8, _⟩ => ⟨S16x1024, .f32⟩
  | .hbm, ⟨9, _⟩ => ⟨S16x1024, .f32⟩
  | .hbm, ⟨10, _⟩ => ⟨S16x1024, .f32⟩
  | .hbm, ⟨11, _⟩ => ⟨S16x1024, .f32⟩
  | .hbm, ⟨12, _⟩ => ⟨S16x1x1024, .f32⟩
  | .hbm, ⟨13, _⟩ => ⟨S16x1x1024, .f32⟩
  | .hbm, ⟨14, _⟩ => ⟨S16x1x1024, .f32⟩
  | .hbm, ⟨15, _⟩ => ⟨S16x1x1024, .f32⟩
  | .hbm, ⟨16, _⟩ => ⟨S16x1x1024, .f32⟩
  | .hbm, ⟨17, _⟩ => ⟨S16x1x1024, .f32⟩
  | .hbm, ⟨18, _⟩ => ⟨S1024, .f32⟩
  | .hbm, ⟨19, _⟩ => ⟨S16x2048x1024, .f32⟩
  | .hbm, ⟨20, _⟩ => ⟨S_, .f32⟩
  | .hbm, ⟨21, _⟩ => ⟨S16x2048, .f32⟩
  | .hbm, ⟨22, _⟩ => ⟨S16x2048x1, .f32⟩
  | .hbm, ⟨23, _⟩ => ⟨S_, .f32⟩
  | .hbm, ⟨24, _⟩ => ⟨S16x2048x1, .f32⟩
  | .hbm, ⟨25, _⟩ => ⟨S16x2048x1, .f32⟩
  | .hbm, ⟨26, _⟩ => ⟨S_, .f32⟩
  | .hbm, ⟨27, _⟩ => ⟨S16x2048x1, .f32⟩
  | .hbm, ⟨28, _⟩ => ⟨S16x2048x1, .f32⟩
  | .hbm, ⟨29, _⟩ => ⟨S16x2048x1, .f32⟩
  | .hbm, ⟨30, _⟩ => ⟨S16x2048x1024, .f32⟩
  | .hbm, ⟨31, _⟩ => ⟨S16x2048x1024, .f32⟩
  | .hbm, ⟨32, _⟩ => ⟨S1x1x1024, .f32⟩
  | .hbm, ⟨33, _⟩ => ⟨S16x2048x1024, .f32⟩
  | .hbm, ⟨34, _⟩ => ⟨S16x2048x1024, .f32⟩
  | .hbm, ⟨35, _⟩ => ⟨S_, .f32⟩
  | .hbm, ⟨36, _⟩ => ⟨S16x1x1024, .f32⟩
  | .hbm, ⟨37, _⟩ => ⟨S16x1x1024, .f32⟩
  | .hbm, ⟨38, _⟩ => ⟨S16x2048x1024, .f32⟩
  | .hbm, ⟨39, _⟩ => ⟨S16x2048x1024, .f32⟩
  | .hbm, ⟨40, _⟩ => ⟨S16x2048x1024, .f32⟩
  | .hbm, ⟨41, _⟩ => ⟨S16x2048x1024, .f32⟩
  | .hbm, ⟨42, _⟩ => ⟨S1024x4096, .f32⟩
  | .hbm, ⟨43, _⟩ => ⟨S16x2048x4096, .f32⟩
  | .hbm, ⟨44, _⟩ => ⟨S_, .f32⟩
  | .hbm, ⟨45, _⟩ => ⟨S16x2048x4096, .f32⟩
  | .hbm, ⟨46, _⟩ => ⟨S16x2048x4096, .f32⟩
  | .hbm, ⟨47, _⟩ => ⟨S16x2048x4096, .f32⟩
  | .hbm, ⟨48, _⟩ => ⟨S4096x1024, .f32⟩
  | .hbm, ⟨49, _⟩ => ⟨S16x2048x1024, .f32⟩
  | .hbm, ⟨50, _⟩ => ⟨S1024, .f32⟩
  | .hbm, ⟨51, _⟩ => ⟨S16x2048x1024, .f32⟩
  | .hbm, ⟨52, _⟩ => ⟨S_, .f32⟩
  | .hbm, ⟨53, _⟩ => ⟨S16x2048, .f32⟩
  | .hbm, ⟨54, _⟩ => ⟨S16x2048x1, .f32⟩
  | .hbm, ⟨55, _⟩ => ⟨S_, .f32⟩
  | .hbm, ⟨56, _⟩ => ⟨S16x2048x1, .f32⟩
  | .hbm, ⟨57, _⟩ => ⟨S16x2048x1, .f32⟩
  | .hbm, ⟨58, _⟩ => ⟨S_, .f32⟩
  | .hbm, ⟨59, _⟩ => ⟨S16x2048x1, .f32⟩
  | .hbm, ⟨60, _⟩ => ⟨S16x2048x1, .f32⟩
  | .hbm, ⟨61, _⟩ => ⟨S16x2048x1, .f32⟩
  | .hbm, ⟨62, _⟩ => ⟨S16x2048x1024, .f32⟩
  | .hbm, ⟨63, _⟩ => ⟨S16x2048x1024, .f32⟩
  | .hbm, ⟨64, _⟩ => ⟨S1x1x1024, .f32⟩
  | .hbm, ⟨65, _⟩ => ⟨S16x2048x1024, .f32⟩
  | .hbm, ⟨66, _⟩ => ⟨S16x2048x1024, .f32⟩
  | .hbm, ⟨67, _⟩ => ⟨S16x2048x1024, .f32⟩
  | .hbm, ⟨68, _⟩ => ⟨S16x2048x1024, .f32⟩
  | .hbm, ⟨69, _⟩ => ⟨S16x2048x1024, .f32⟩
  | _, _ => ⟨S16x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_cst : Ref sig .tc := ⟨.hbm, 20, rfl⟩
abbrev main_v14 : Ref sig .tc := ⟨.hbm, 21, rfl⟩
abbrev main_v15 : Ref sig .tc := ⟨.hbm, 22, rfl⟩
abbrev main_cst_0 : Ref sig .tc := ⟨.hbm, 23, rfl⟩
abbrev main_v16 : Ref sig .tc := ⟨.hbm, 24, rfl⟩
abbrev main_v17 : Ref sig .tc := ⟨.hbm, 25, rfl⟩
abbrev main_cst_1 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_cst_2 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_call0_cst : Ref sig .tc := ⟨.hbm, 44, rfl⟩
abbrev main_call0_v0 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_cst_3 : Ref sig .tc := ⟨.hbm, 52, rfl⟩
abbrev main_v40 : Ref sig .tc := ⟨.hbm, 53, rfl⟩
abbrev main_v41 : Ref sig .tc := ⟨.hbm, 54, rfl⟩
abbrev main_cst_4 : Ref sig .tc := ⟨.hbm, 55, rfl⟩
abbrev main_v42 : Ref sig .tc := ⟨.hbm, 56, rfl⟩
abbrev main_v43 : Ref sig .tc := ⟨.hbm, 57, rfl⟩
abbrev main_cst_5 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩
abbrev main_v48 : Ref sig .tc := ⟨.hbm, 63, rfl⟩
abbrev main_v49 : Ref sig .tc := ⟨.hbm, 64, rfl⟩
abbrev main_v50 : Ref sig .tc := ⟨.hbm, 65, rfl⟩
abbrev main_v51 : Ref sig .tc := ⟨.hbm, 66, rfl⟩
abbrev main_v52 : Ref sig .tc := ⟨.hbm, 67, rfl⟩
abbrev main_v53 : Ref sig .tc := ⟨.hbm, 68, rfl⟩
abbrev main_v54 : Ref sig .tc := ⟨.hbm, 69, rfl⟩

abbrev nD : Nat := 1
abbrev τ : Topo := Topo.v7x

variable {F : FTy → Type} [FloatOps F]
-- ==== Adaln.lean ====
abbrev S16x1024 : Shape := ⟨2, ![16, 1024]⟩
abbrev S1x1024x6144 : Shape := ⟨3, ![1, 1024, 6144]⟩
abbrev S1x6144 : Shape := ⟨2, ![1, 6144]⟩
abbrev S1024x6144 : Shape := ⟨2, ![1024, 6144]⟩
abbrev S6144 : Shape := ⟨1, ![6144]⟩
abbrev S16x6144 : Shape := ⟨2, ![16, 6144]⟩
abbrev S1024x1024 : Shape := ⟨2, ![1024, 1024]⟩
abbrev S1x1024 : Shape := ⟨2, ![1, 1024]⟩
abbrev S32x1024 : Shape := ⟨2, ![32, 1024]⟩

abbrev nBuf : Space → Nat
  | .hbm => 7
  | .vmem => 7
  | .smem => 0
  | _ => 0

abbrev bufTy : (tb : Table) → Fin (tcTables nBuf tb) → BufTy
  | .hbm, ⟨0, _⟩ => ⟨S16x1024, .f32⟩
  | .hbm, ⟨1, _⟩ => ⟨S1x1024x6144, .f32⟩
  | .hbm, ⟨2, _⟩ => ⟨S1x6144, .f32⟩
  | .hbm, ⟨3, _⟩ => ⟨S1024x6144, .f32⟩
  | .hbm, ⟨4, _⟩ => ⟨S6144, .f32⟩
  | .hbm, ⟨5, _⟩ => ⟨S1x6144, .f32⟩
  | .hbm, ⟨6, _⟩ => ⟨S16x6144, .f32⟩
  | .local _ .vmem, ⟨0, _⟩ => ⟨S16x1024, .f32⟩
  | .local _ .vmem, ⟨1, _⟩ => ⟨S1024x1024, .f32⟩
  | .local _ .vmem, ⟨2, _⟩ => ⟨S1024x1024, .f32⟩
  | .local _ .vmem, ⟨3, _⟩ => ⟨S1x1024, .f32⟩
  | .local _ .vmem, ⟨4, _⟩ => ⟨S1x1024, .f32⟩
  | .local _ .vmem, ⟨5, _⟩ => ⟨S16x1024, .f32⟩
  | .local _ .vmem, ⟨6, _⟩ => ⟨S16x1024, .f32⟩
  | _, _ => ⟨S16x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![6], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S16x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S16x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== AdalnRefIdeal.lean ====
abbrev S16x1024 : Shape := ⟨2, ![16, 1024]⟩
abbrev S1x1024x6144 : Shape := ⟨3, ![1, 1024, 6144]⟩
abbrev S1x6144 : Shape := ⟨2, ![1, 6144]⟩
abbrev S_ : Shape := ⟨0, ![]⟩
abbrev S1024x6144 : Shape := ⟨2, ![1024, 6144]⟩
abbrev S16x6144 : Shape := ⟨2, ![16, 6144]⟩
abbrev S6144 : Shape := ⟨1, ![6144]⟩

abbrev nBuf : Space → Nat
  | .hbm => 18
  | .vmem => 0
  | .smem => 0
  | _ => 0

abbrev bufTy : (tb : Table) → Fin (tcTables nBuf tb) → BufTy
  | .hbm, ⟨0, _⟩ => ⟨S16x1024, .f32⟩
  | .hbm, ⟨1, _⟩ => ⟨S1x1024x6144, .f32⟩
  | .hbm, ⟨2, _⟩ => ⟨S1x6144, .f32⟩
  | .hbm, ⟨3, _⟩ => ⟨S16x1024, .f32⟩
  | .hbm, ⟨4, _⟩ => ⟨S16x1024, .f32⟩
  | .hbm, ⟨5, _⟩ => ⟨S_, .f32⟩
  | .hbm, ⟨6, _⟩ => ⟨S16x1024, .f32⟩
  | .hbm, ⟨7, _⟩ => ⟨S16x1024, .f32⟩
  | .hbm, ⟨8, _⟩ => ⟨S_, .f32⟩
  | .hbm, ⟨9, _⟩ => ⟨S16x1024, .f32⟩
  | .hbm, ⟨10, _⟩ => ⟨S16x1024, .f32⟩
  | .hbm, ⟨11, _⟩ => ⟨S16x1024, .f32⟩
  | .hbm, ⟨12, _⟩ => ⟨S1024x6144, .f32⟩
  | .hbm, ⟨13, _⟩ => ⟨S16x6144, .f32⟩
  | .hbm, ⟨14, _⟩ => ⟨S6144, .f32⟩
  | .hbm, ⟨15, _⟩ => ⟨S1x6144, .f32⟩
  | .hbm, ⟨16, _⟩ => ⟨S16x6144, .f32⟩
  | .hbm, ⟨17, _⟩ => ⟨S16x6144, .f32⟩
  | _, _ => ⟨S16x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_v0 : Ref sig .tc := ⟨.hbm, 3, rfl⟩
abbrev main_call0_v1 : Ref sig .tc := ⟨.hbm, 4, rfl⟩
abbrev main_call0_cst : Ref sig .tc := ⟨.hbm, 5, rfl⟩
abbrev main_call0_v2 : Ref sig .tc := ⟨.hbm, 6, rfl⟩
abbrev main_call0_v3 : Ref sig .tc := ⟨.hbm, 7, rfl⟩
abbrev main_call0_cst_0 : Ref sig .tc := ⟨.hbm, 8, rfl⟩
abbrev main_call0_v4 : Ref sig .tc := ⟨.hbm, 9, rfl⟩
abbrev main_call0_v5 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩

abbrev nD : Nat := 1
abbrev τ : Topo := Topo.v7x

variable {F : FTy → Type} [FloatOps F]
-- ==== Proof.MlpPure.lean ====
/-
  The channel MLP, row by row: the function of one row of the input that both programs compute, and the kernel's stored
  payloads read at an index as that function.
-/
module

public import proofs.«01_k».proof.Proof.Gen.MlpIdeal.Skeleton
public import Idealize.ShloMosaic.Lib.Pointwise

@[expose] public section

set_option maxRecDepth 16384

noncomputable section

open Idealize.ShloMosaic Idealize.ShloMosaic.TcCoe Idealize.SL.Sem

namespace Cert.MlpPure

/-- The reciprocal root mean square of a row. -/
def nrm (x : Fin 1024 → EReal) : EReal :=
  Ideal.rsqrt (Ideal.div (∑ k, x k * x k) (Ideal.ofBits .f32 0x44800000#32) + Ideal.ofBits .f32 0x358637BD#32)

/-- The row normalised, weighted and modulated. -/
def hrow (x pw sc sh : Fin 1024 → EReal) (k : Fin 1024) : EReal := x k * nrm x * pw k * (1 + sc k) + sh k

/-- The squared rectified up-projection. -/
def urow (h : Fin 1024 → EReal) (wu : Fin 1024 → Fin 4096 → EReal) (n : Fin 4096) : EReal :=
  max (∑ k, h k * wu k n) 0 * max (∑ k, h k * wu k n) 0

/-- The down-projection. -/
def yrow (u : Fin 4096 → EReal) (wd : Fin 4096 → Fin 1024 → EReal) (j : Fin 1024) : EReal := ∑ n, u n * wd n j

/-- The residual plus the gated, normalised and weighted down-projection. -/
def fin (x g pw y : Fin 1024 → EReal) (j : Fin 1024) : EReal := x j + g j * (y j * nrm y * pw j)

/-- One row of the channel MLP. -/
def row (x sh sc g pw qw : Fin 1024 → EReal) (wu : Fin 1024 → Fin 4096 → EReal) (wd : Fin 4096 → Fin 1024 → EReal)
    (j : Fin 1024) : EReal := fin x g qw (yrow (urow (hrow x pw sc sh) wu) wd) j

/-- Two spellings of one row agree when what they read does. -/
theorem row_congr {x x' X sh SH sc SC g G pw PW qw QW : Fin 1024 → EReal} {wu WU : Fin 1024 → Fin 4096 → EReal}
    {wd WD : Fin 4096 → Fin 1024 → EReal} {j J : Fin 1024} (h1 : ∀ k, x k = X k) (h2 : ∀ k, x' k = X k)
    (h3 : ∀ k, sh k = SH k) (h4 : ∀ k, sc k = SC k) (h5 : ∀ k, g k = G k) (h6 : ∀ k, pw k = PW k)
    (h7 : ∀ k, qw k = QW k) (h8 : ∀ k n, wu k n = WU k n) (h9 : ∀ n k, wd n k = WD n k) (h10 : j = J) :
    fin x g qw (yrow (fun n => urow (hrow x' pw sc sh) wu n) wd) j = row X SH SC G PW QW WU WD J := by
  obtain rfl : x = X := funext h1
  obtain rfl : x' = x := funext h2
  obtain rfl : sh = SH := funext h3
  obtain rfl : sc = SC := funext h4
  obtain rfl : g = G := funext h5
  obtain rfl : pw = PW := funext h6
  obtain rfl : qw = QW := funext h7
  obtain rfl : wu = WU := funext fun k => funext (h8 k)
  obtain rfl : wd = WD := funext fun k => funext (h9 k)
  subst h10
  rfl

end Cert.MlpPure

namespace Cert.MlpIdeal.Pure

open Cert.MlpIdeal Cert.MlpIdeal.Gen Cert.MlpPure

theorem pay2_at (v1 : Vec Ideal S1x1024 .f32) (v3 : Vec Ideal S1x1024 .f32) (v6 : Vec Ideal S1x256x1024 .f32)
    (v18 : Vec Ideal S1x1024 .f32) (v29 : Vec Ideal S1024x4096 .bf16) (r : Fin 256) (n : Fin 4096) :
    k0_pay2 (F := Ideal) v1 v3 v6 v18 v29 (ix2 r n)
      = urow (hrow (fun k => v6 (ix3 0 r k)) (fun k => v18 (ix2 0 k)) (fun k => v3 (ix2 0 k)) (fun k => v1 (ix2 0 k)))
          (fun k n => v29 (ix2 k n)) n := by
  pointwise [k0_pay2, urow, hrow, nrm]

theorem pay5_at (v1 : Vec Ideal S1x1024 .f32) (v3 : Vec Ideal S1x1024 .f32) (v34 : FVec Ideal S256x4096 .bf16)
    (v35 : Vec Ideal S1x256x1024 .f32) (v47 : Vec Ideal S1x1024 .f32) (v58 : Vec Ideal S1024x4096 .bf16)
    (r : Fin 512) (n : Fin 4096) :
    k0_pay5 (F := Ideal) v1 v3 v34 (k0_pay3 v35) (k0_pay4 v35) v47 v58 (ix2 r n)
      = if h : (r : ℕ) < 256 then v34 (ix2 ⟨r, h⟩ n) else
        urow (hrow (fun k => v35 (ix3 0 ⟨r - 256, by omega⟩ k)) (fun k => v47 (ix2 0 k)) (fun k => v3 (ix2 0 k))
          (fun k => v1 (ix2 0 k))) (fun k n => v58 (ix2 k n)) n := by
  pointwise [k0_pay5, k0_pay3, k0_pay4, urow, hrow, nrm]

theorem pay7_at (v1 : Vec Ideal S1x1024 .f32) (v3 : Vec Ideal S1x1024 .f32) (v65 : Vec Ideal S1x512x1024 .f32)
    (v77 : Vec Ideal S1x1024 .f32) (v90 : Vec Ideal S1024x4096 .bf16) (r : Fin 512) (n : Fin 4096) :
    k0_pay7 (F := Ideal) v1 v3 (k0_pay6 v65 v77) v90 (ix2 r n)
      = urow (hrow (fun k => v65 (ix3 0 r k)) (fun k => v77 (ix2 0 k)) (fun k => v3 (ix2 0 k)) (fun k => v1 (ix2 0 k)))
          (fun k n => v90 (ix2 k n)) n := by
  pointwise [k0_pay7, k0_pay6, urow, hrow, nrm]

theorem pay8_at (v5 : Vec Ideal S1x1024 .f32) (v64 : FVec Ideal S512x4096 .bf16) (v88 : Vec Ideal S4096x1024 .bf16)
    (v96 : Vec Ideal S1x512x1024 .f32) (v108 : Vec Ideal S1x1024 .f32) (r : Fin 512) (j : Fin 1024) :
    k0_pay8 (F := Ideal) v5 v64 v88 v96 v108 (ix3 0 r j)
      = fin (fun k => v96 (ix3 0 r k)) (fun k => v5 (ix2 0 k)) (fun k => v108 (ix2 0 k))
          (yrow (fun n => v64 (ix2 r n)) (fun n j => v88 (ix2 n j))) j := by
  pointwise [k0_pay8, fin, yrow, nrm]

theorem pay11_at (v5 : Vec Ideal S1x1024 .f32) (v118 : FVec Ideal S256x4096 .bf16) (v119 : Vec Ideal S4096x1024 .bf16)
    (v124 : Vec Ideal S1x256x1024 .f32) (v136 : Vec Ideal S1x1024 .f32) (r : Fin 256) (j : Fin 1024) :
    k0_pay11 (F := Ideal) v5 v118 v119 v124 v136 (ix3 0 r j)
      = fin (fun k => v124 (ix3 0 r k)) (fun k => v5 (ix2 0 k)) (fun k => v136 (ix2 0 k))
          (yrow (fun n => v118 (ix2 r n)) (fun n j => v119 (ix2 n j))) j := by
  pointwise [k0_pay11, fin, yrow, nrm]

theorem pay9_at (v1 : Vec Ideal S1x1024 .f32) (v3 : Vec Ideal S1x1024 .f32) (v80 : FVec Ideal S512x1024 .f32)
    (v90 : Vec Ideal S1024x4096 .bf16) (r : Fin 256) (n : Fin 4096) :
    k0_pay9 (F := Ideal) v1 v3 v80 v90 (ix2 r n) = k0_pay7 v1 v3 v80 v90 (ix2 ⟨r, by omega⟩ n) := by
  pointwise [k0_pay9]

theorem pay10_at (v95 : FVec Ideal S512x4096 .bf16) (v122 : Vec Ideal S4096x1024 .bf16) (r : Fin 256) (j : Fin 1024) :
    k0_pay10 (F := Ideal) v95 v122 (ix2 r j)
      = yrow (fun n => v95 (ix2 ⟨256 + r, by omega⟩ n)) (fun n j => v122 (ix2 n j)) j := by
  pointwise [k0_pay10, yrow]

theorem pay1_at (v5 : Vec Ideal S1x1024 .f32) (v95 : FVec Ideal S512x4096 .bf16) (v122 : Vec Ideal S4096x1024 .bf16)
    (v146 : Vec Ideal S1x256x1024 .f32) (v158 : Vec Ideal S1x1024 .f32) (r : Fin 256) (j : Fin 1024) :
    k0_pay1 (F := Ideal) v5 (k0_pay10 v95 v122) (k0_pay12 v146) (k0_pay13 v95 v122) v158 (ix3 0 r j)
      = fin (fun k => v146 (ix3 0 r k)) (fun k => v5 (ix2 0 k)) (fun k => v158 (ix2 0 k))
          (yrow (fun n => v95 (ix2 ⟨256 + r, by omega⟩ n)) (fun n j => v122 (ix2 n j))) j := by
  pointwise [k0_pay1, k0_pay10, k0_pay12, k0_pay13, fin, yrow, nrm]

end Cert.MlpIdeal.Pure

end
-- ==== Proof.MlpValue.lean ====
/-
  The channel MLP's result array after the kernel's run: every element is the row function `MlpPure.row` of the
  argument arrays.
-/
module

public import proofs.«01_k».proof.Proof.Gen.MlpIdeal.Value
public import proofs.«01_k».proof.Proof.MlpPure
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.MlpIdeal.Whole

open Cert.MlpIdeal Cert.MlpIdeal.Gen Cert.MlpPure

variable (m : (ℓ : Loc nD τ sig) → Buf (Elt Ideal) ℓ)

theorem idx : ∀ t : Fin cfg0.N, win0_0.index t = ![t.val / 2, t.val % 2, 0] ∧ win0_1.index t = ![0, 0]
    ∧ win0_2.index t = ![0, 0] ∧ win0_3.index t = ![0, 0] ∧ win0_4.index t = ![0, 0] ∧ win0_5.index t = ![0, 0]
    ∧ win0_6.index t = ![t.val / 2, t.val % 2, 0] ∧ (grid0.coords t 0).val = t.val / 2 ∧ t.val / 2 < 16 :=
  (by decide +kernel : ∀ t : Fin grid0.N, _)

/-- The result array as one function of the arguments. -/
def G (X : FVec Ideal S16x2048x1024 .f32) (M : FVec Ideal S16x6144 .f32) (PW : FVec Ideal S1x1024 .f32)
    (WU : FVec Ideal S1024x4096 .bf16) (WD : FVec Ideal S4096x1024 .bf16) (QW : FVec Ideal S1x1024 .f32) :
    FVec Ideal S16x2048x1024 .f32 := fun i =>
  row (fun k => X (ix3 (i 0) (i 1) k)) (fun k => M (ix2 (i 0) ⟨3072 + k, by omega⟩))
    (fun k => M (ix2 (i 0) ⟨4096 + k, by omega⟩)) (fun k => M (ix2 (i 0) ⟨5120 + k, by omega⟩))
    (fun k => PW (ix2 0 k)) (fun k => QW (ix2 0 k)) (fun k n => WU (ix2 k n)) (fun n j => WD (ix2 n j)) (i 2)

theorem tlt (t : Fin cfg0.N) : t.val / 2 < 16 := (idx t).2.2.2.2.2.2.2.2

theorem rd0 (c : Dev nD) (t : Fin cfg0.N) (r k : Fin 1024) : (iblk m c 0 t : FVec Ideal S1x1024x1024 .f32) (ix3 0 r k)
    = (m ((c : Thread nD τ).loc main_arg0) : FVec Ideal S16x2048x1024 .f32)
        (ix3 ⟨t.val / 2, tlt t⟩ ⟨t.val % 2 * 1024 + r, by omega⟩ k) := by
  blk_ext [iblk, V, idx t]

theorem rd1 (c : Dev nD) (t : Fin cfg0.N) (r : Fin 16) (k : Fin 6144) : (iblk m c 1 t : FVec Ideal S16x6144 .f32) (ix2 r k)
    = (m ((c : Thread nD τ).loc main_arg1) : FVec Ideal S16x6144 .f32) (ix2 r k) := by
  blk_ext [iblk, V, idx t]

theorem rd2 (c : Dev nD) (t : Fin cfg0.N) (k : Fin 1024) : (iblk m c 2 t : FVec Ideal S1x1024 .f32) (ix2 0 k)
    = (m ((c : Thread nD τ).loc main_arg2) : FVec Ideal S1x1024 .f32) (ix2 0 k) := by
  blk_simp [iblk]
  entry_read
  pointwise
  blk_ext [idx t]

theorem rd3 (c : Dev nD) (t : Fin cfg0.N) (k : Fin 1024) (n : Fin 4096) : (iblk m c 3 t : FVec Ideal S1024x4096 .bf16) (ix2 k n)
    = (m ((c : Thread nD τ).loc main_arg3) : FVec Ideal S1024x4096 .bf16) (ix2 k n) := by
  blk_ext [iblk, V, idx t]

theorem rd4 (c : Dev nD) (t : Fin cfg0.N) (n : Fin 4096) (k : Fin 1024) : (iblk m c 4 t : FVec Ideal S4096x1024 .bf16) (ix2 n k)
    = (m ((c : Thread nD τ).loc main_arg4) : FVec Ideal S4096x1024 .bf16) (ix2 n k) := by
  blk_ext [iblk, V, idx t]

theorem rd5 (c : Dev nD) (t : Fin cfg0.N) (k : Fin 1024) : (iblk m c 5 t : FVec Ideal S1x1024 .f32) (ix2 0 k)
    = (m ((c : Thread nD τ).loc main_arg5) : FVec Ideal S1x1024 .f32) (ix2 0 k) := by
  blk_simp [iblk]
  entry_read
  pointwise
  blk_ext [idx t]

theorem emb6 (t : Fin cfg0.N) (y : S1x1024x1024.Idx) : (((View.whole main_v4).slice (win0_6.rect t)).emb y : S16x2048x1024.Idx)
    = ix3 ⟨t.val / 2, tlt t⟩ ⟨t.val % 2 * 1024 + (y 1).val, by have := (y 1).isLt; change (y 1).val < 1024 at this; omega⟩ (y 2) := by
  blk_ext [iblk, V, idx t]

theorem off : ∀ t : Fin cfg0.N, k0_off1 (grid0.coords t) = ![t.val / 2, 3072] ∧ k0_off2 (grid0.coords t) = ![t.val / 2, 4096]
    ∧ k0_off3 (grid0.coords t) = ![t.val / 2, 5120] :=
  (by decide +kernel : ∀ t : Fin grid0.N, _)

theorem final (c : Dev nD) : (dats m 0 c).arrAt 6 cfg0.N
    = G (m ((c : Thread nD τ).loc main_arg0)) (m ((c : Thread nD τ).loc main_arg1)) (m ((c : Thread nD τ).loc main_arg2))
      (m ((c : Thread nD τ).loc main_arg3)) (m ((c : Thread nD τ).loc main_arg4)) (m ((c : Thread nD τ).loc main_arg5)) := by
  refine (dats m 0 c).arrAt_eq_of_covers 6 _ (by decide +kernel) fun t _ y => ?_
  blk_simp
  rw [after0_6]
  unfold outsAt0
  frame_out
  rw [emb6]
  canon_tiles x h using View.cover_of_tiledBy _ ![1, 256, 1024] (by sl_kernel_rfl) y
  all_goals (idx_vars x; obtain rfl : x0 = 0 := Subsingleton.elim _ _)
  · rw [Pure.pay1_at]
    simp only [Pure.pay7_at]
    refine row_congr ?_ ?_ ?_ ?_ ?_ ?_ ?_ ?_ ?_ ?_ <;> intros <;> pointwise [rd0, rd1, rd2, rd3, rd4, rd5] <;>
      first | exact Fin.ext h2.symm | (blk_ext [off t]; done)
  · rw [Pure.pay11_at]
    simp only [Pure.pay9_at, Pure.pay7_at]
    refine row_congr ?_ ?_ ?_ ?_ ?_ ?_ ?_ ?_ ?_ ?_ <;> intros <;> pointwise [rd0, rd1, rd2, rd3, rd4, rd5] <;>
      first | exact Fin.ext h2.symm | (blk_ext [off t]; done)
  · rw [Pure.pay8_at]
    simp only [Pure.pay5_at, Pure.pay2_at]
    by_cases hlt : (x1 : ℕ) < 256
    · simp only [dif_pos hlt]
      refine row_congr ?_ ?_ ?_ ?_ ?_ ?_ ?_ ?_ ?_ ?_ <;> intros <;> pointwise [rd0, rd1, rd2, rd3, rd4, rd5] <;>
        first | exact Fin.ext h2.symm | (blk_ext [off t]; done)
    · simp only [dif_neg hlt]
      refine row_congr ?_ ?_ ?_ ?_ ?_ ?_ ?_ ?_ ?_ ?_ <;> intros <;> pointwise [rd0, rd1, rd2, rd3, rd4, rd5] <;>
        first | exact Fin.ext h2.symm | (blk_ext [off t]; done)

end Cert.MlpIdeal.Whole

end
-- ==== Proof.MlpRead.lean ====
/-
  The channel MLP's reference, read at an index: the row function `MlpPure.row` of the arguments.
-/
module

public import proofs.«01_k».proof.Proof.Gen.MlpRefIdeal.Read
public import proofs.«01_k».proof.Defs
public import proofs.«01_k».proof.Proof.MlpValue

@[expose] public section

set_option maxRecDepth 16384

noncomputable section

open Idealize.ShloMosaic Idealize.ShloMosaic.TcCoe Idealize.SL.Sem

namespace Cert.MlpRefIdeal.Whole

open Cert.MlpRefIdeal Cert.MlpRefIdeal.Gen Cert.MlpRefIdeal.Read Cert.MlpPure

theorem h_at (x0 : FVec Ideal S16x2048x1024 .f32) (x1 : FVec Ideal S16x6144 .f32) (x2 : FVec Ideal S1x1024 .f32)
    (b : Fin 16) (t : Fin 2048) (k : Fin 1024) :
    val_main_v31 (F := Ideal) x0 x1 x2 (ix3 b t k)
      = hrow (fun k => x0 (ix3 b t k)) (fun k => x2 (ix2 0 k)) (fun k => x1 (ix2 b ⟨4096 + k, by omega⟩))
          (fun k => x1 (ix2 b ⟨3072 + k, by omega⟩)) k := by
  pointwise [hrow, nrm, val_main_v31, val_main_v30, val_main_v29, val_main_v28, val_main_v27, val_main_v26, val_main_cst_2,
    val_main_v25, val_main_v24, val_main_v23, val_main_v22, val_main_v21, val_main_v20, val_main_v19, val_main_v18,
    val_main_cst_1, val_main_v17, val_main_v16, val_main_cst_0, val_main_v15, val_main_v14, val_main_cst, val_main_v13,
    val_main_v12, val_main_v11, val_main_v10, val_main_v9, val_main_v8, val_main_v7, val_main_v6, val_main_v5, val_main_v4,
    val_main_v3, val_main_v2, val_main_v1, val_main_v0]

theorem u_at (x0 : FVec Ideal S16x2048x1024 .f32) (x1 : FVec Ideal S16x6144 .f32) (x2 : FVec Ideal S1x1024 .f32)
    (x3 : FVec Ideal S1024x4096 .bf16) (b : Fin 16) (t : Fin 2048) (n : Fin 4096) :
    val_main_v35 (F := Ideal) x0 x1 x2 x3 (ix3 b t n)
      = urow (fun k => val_main_v31 (F := Ideal) x0 x1 x2 (ix3 b t k)) (fun k n => x3 (ix2 k n)) n := by
  pointwise [urow, val_main_v35, val_main_v34, val_main_call0_v0, val_main_call0_cst, val_main_v33, val_main_v32]

theorem y_at (x0 : FVec Ideal S16x2048x1024 .f32) (x1 : FVec Ideal S16x6144 .f32) (x2 : FVec Ideal S1x1024 .f32)
    (x3 : FVec Ideal S1024x4096 .bf16) (x4 : FVec Ideal S4096x1024 .bf16) (b : Fin 16) (t : Fin 2048) (j : Fin 1024) :
    val_main_v37 (F := Ideal) x0 x1 x2 x3 x4 (ix3 b t j)
      = yrow (fun n => val_main_v35 (F := Ideal) x0 x1 x2 x3 (ix3 b t n)) (fun n j => x4 (ix2 n j)) j := by
  pointwise [yrow, val_main_v37, val_main_v36]

theorem out_at (x0 : FVec Ideal S16x2048x1024 .f32) (x1 : FVec Ideal S16x6144 .f32) (x2 : FVec Ideal S1x1024 .f32)
    (x3 : FVec Ideal S1024x4096 .bf16) (x4 : FVec Ideal S4096x1024 .bf16) (x5 : FVec Ideal S1x1024 .f32)
    (b : Fin 16) (t : Fin 2048) (j : Fin 1024) :
    val_main_v54 (F := Ideal) x0 x1 x2 x3 x4 x5 (ix3 b t j)
      = fin (fun k => x0 (ix3 b t k)) (fun k => x1 (ix2 b ⟨5120 + k, by omega⟩)) (fun k => x5 (ix2 0 k))
          (fun j => val_main_v37 (F := Ideal) x0 x1 x2 x3 x4 (ix3 b t j)) j := by
  pointwise [fin, nrm, val_main_v54, val_main_v53, val_main_v52, val_main_v51, val_main_v50, val_main_v49, val_main_v48,
    val_main_v47, val_main_v46, val_main_v45, val_main_v44, val_main_cst_5, val_main_v43, val_main_v42, val_main_cst_4,
    val_main_v41, val_main_v40, val_main_cst_3, val_main_v39, val_main_v38, val_main_v11, val_main_v10, val_main_v9,
    val_main_v8, val_main_v7, val_main_v6, val_main_v5, val_main_v4, val_main_v3, val_main_v2, val_main_v1, val_main_v0]

/-- The reference's result is the kernel's function of the arguments. -/
theorem out_eq (x0 : FVec Ideal S16x2048x1024 .f32) (x1 : FVec Ideal S16x6144 .f32) (x2 : FVec Ideal S1x1024 .f32)
    (x3 : FVec Ideal S1024x4096 .bf16) (x4 : FVec Ideal S4096x1024 .bf16) (x5 : FVec Ideal S1x1024 .f32) :
    val_main_v54 (F := Ideal) x0 x1 x2 x3 x4 x5 = Cert.MlpIdeal.Whole.G x0 x1 x2 x3 x4 x5 := by
  funext i
  idx_vars i
  rw [out_at]
  simp only [y_at, u_at, h_at]
  rfl

end Cert.MlpRefIdeal.Whole

/-- The two programs of the channel MLP end with equal results. -/
theorem Cert.MlpPure.algebraic : Cert.algebraic_MlpIdeal_MlpRefIdeal (hMlpIdeal := Cert.MlpIdeal.Gen.facts)
    (hMlpRefIdeal := Cert.MlpRefIdeal.Gen.facts) := fun m g m' g' _ hag =>
  ⟨fun c => Cert.MlpIdeal.Whole.G (m ((c : Thread Cert.MlpIdeal.nD Cert.MlpIdeal.τ).loc Cert.MlpIdeal.main_arg0)) (m ((c : Thread Cert.MlpIdeal.nD Cert.MlpIdeal.τ).loc Cert.MlpIdeal.main_arg1))
      (m ((c : Thread Cert.MlpIdeal.nD Cert.MlpIdeal.τ).loc Cert.MlpIdeal.main_arg2)) (m ((c : Thread Cert.MlpIdeal.nD Cert.MlpIdeal.τ).loc Cert.MlpIdeal.main_arg3))
      (m ((c : Thread Cert.MlpIdeal.nD Cert.MlpIdeal.τ).loc Cert.MlpIdeal.main_arg4)) (m ((c : Thread Cert.MlpIdeal.nD Cert.MlpIdeal.τ).loc Cert.MlpIdeal.main_arg5)),
    (θ_run _ _ _).mono (fun _ h c => ⟨(h c).1.trans (Cert.MlpIdeal.Whole.final m c), (h c).2⟩) (Cert.MlpIdeal.Value.run_blocks m g),
    (θ_run _ _ _).mono (fun _ h c => ⟨(h c).1.trans ((Cert.MlpRefIdeal.Read.val_main_v54_eq m' c).trans
      ((Cert.MlpRefIdeal.Whole.out_eq _ _ _ _ _ _).trans (by
        rw [(hag c).1, (hag c).2.1, (hag c).2.2.1, (hag c).2.2.2.1, (hag c).2.2.2.2.1, (hag c).2.2.2.2.2]))), (h c).2⟩)
      (Cert.MlpRefIdeal.Value.run m' g')⟩

end
-- ==== Proof.MixWeights.lean ====
/-
  The second and the third result of the token mixer's call: the two weight arrays of the channel MLP, which the call
  passes on block by block. Over the reals they are the arguments themselves.
-/
module

public import proofs.«01_k».proof.Proof.Gen.KernelIdeal.Value
public import proofs.«01_k».proof.Proof.Gen.ReferenceIdeal.Run
public import proofs.«01_k».proof.Defs
public import Idealize.ShloMosaic.Lib.Pointwise
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.KernelIdeal.Weights

open Cert.KernelIdeal Cert.KernelIdeal.Gen

variable (m : (ℓ : Loc nD τ sig) → Buf (Elt Ideal) ℓ)

theorem idx : ∀ t : Fin cfg0.N, win0_12.index t = ![t.val, 0] ∧ win0_13.index t = ![t.val, 0]
    ∧ win0_15.index t = ![t.val, 0] ∧ win0_16.index t = ![t.val, 0] ∧ t.val < 32 :=
  (by decide +kernel : ∀ t : Fin grid0.N, _)

theorem tlt (t : Fin cfg0.N) : t.val < 32 := (idx t).2.2.2.2

theorem up_after (c : Dev nD) : StableHlo.after ([hostOps0 (F := Ideal), hostOps0_1, hostOps0_2, hostOps0_3, hostOps0_4,
      hostOps0_5, hostOps0_6].flatten) (fun b => m (c, b)) (Proc.tc.devRef main_v23)
    = shapeCast S1024x4096 (m ((c : Thread nD τ).loc main_arg12) : FVec Ideal S1x1024x4096 .f32) shapeCasts_S1x1024x4096_S1024x4096 := by
  simp only [List.flatten_cons, List.flatten_nil, List.cons_append, List.nil_append, List.append_nil]
  after_results <;> rfl

theorem up_entry (c : Dev nD) : V m c main_v23
    = shapeCast S1024x4096 (m ((c : Thread nD τ).loc main_arg12) : FVec Ideal S1x1024x4096 .f32) shapeCasts_S1x1024x4096_S1024x4096 :=
  up_after m c

theorem emb12 (t : Fin cfg0.N) (r : Fin 32) (k : Fin 4096) : ((win0_12.blk t).view.emb (ix2 r k) : S1024x4096.Idx)
    = ix2 ⟨t.val * 32 + r, by have := tlt t; omega⟩ k := by
  blk_ext [iblk, V, idx t]

theorem up_cast (x : FVec Ideal S1x1024x4096 .f32) (r : Fin 1024) (k : Fin 4096) :
    shapeCast S1024x4096 x shapeCasts_S1x1024x4096_S1024x4096 (ix2 r k) = x (ix3 0 r k) := by
  pointwise

theorem up_block (c : Dev nD) (t : Fin cfg0.N) (r : Fin 32) (k : Fin 4096) :
    (iblk m c 12 t : FVec Ideal S32x4096 .f32) (ix2 r k)
    = (m ((c : Thread nD τ).loc main_arg12) : FVec Ideal S1x1024x4096 .f32)
        (ix3 0 ⟨t.val * 32 + r, by have := tlt t; omega⟩ k) := by
  blk_simp [iblk]
  rw [up_entry, emb12]
  exact up_cast _ _ _

theorem down_after (c : Dev nD) : StableHlo.after ([hostOps0 (F := Ideal), hostOps0_1, hostOps0_2, hostOps0_3, hostOps0_4,
      hostOps0_5, hostOps0_6].flatten) (fun b => m (c, b)) (Proc.tc.devRef main_v24)
    = shapeCast S4096x1024 (m ((c : Thread nD τ).loc main_arg13) : FVec Ideal S1x4096x1024 .f32) shapeCasts_S1x4096x1024_S4096x1024 := by
  simp only [List.flatten_cons, List.flatten_nil, List.cons_append, List.nil_append, List.append_nil]
  after_results <;> rfl

theorem down_entry (c : Dev nD) : V m c main_v24
    = shapeCast S4096x1024 (m ((c : Thread nD τ).loc main_arg13) : FVec Ideal S1x4096x1024 .f32) shapeCasts_S1x4096x1024_S4096x1024 :=
  down_after m c

theorem emb13 (t : Fin cfg0.N) (r : Fin 128) (k : Fin 1024) : ((win0_13.blk t).view.emb (ix2 r k) : S4096x1024.Idx)
    = ix2 ⟨t.val * 128 + r, by have := tlt t; omega⟩ k := by
  blk_ext [iblk, V, idx t]

theorem down_cast (x : FVec Ideal S1x4096x1024 .f32) (r : Fin 4096) (k : Fin 1024) :
    shapeCast S4096x1024 x shapeCasts_S1x4096x1024_S4096x1024 (ix2 r k) = x (ix3 0 r k) := by
  pointwise

theorem down_block (c : Dev nD) (t : Fin cfg0.N) (r : Fin 128) (k : Fin 1024) :
    (iblk m c 13 t : FVec Ideal S128x1024 .f32) (ix2 r k)
    = (m ((c : Thread nD τ).loc main_arg13) : FVec Ideal S1x4096x1024 .f32)
        (ix3 0 ⟨t.val * 128 + r, by have := tlt t; omega⟩ k) := by
  blk_simp [iblk]
  rw [down_entry, emb13]
  exact down_cast _ _ _

theorem emb15 (t : Fin cfg0.N) (y : S32x4096.Idx) : (((View.whole main_v34_1).slice (win0_15.rect t)).emb y : S1024x4096.Idx)
    = ix2 ⟨t.val * 32 + (y 0).val, by have := (y 0).isLt; change (y 0).val < 32 at this; have := tlt t; omega⟩ (y 1) := by
  blk_ext [iblk, V, idx t]

theorem emb16 (t : Fin cfg0.N) (y : S128x1024.Idx) : (((View.whole main_v34_2).slice (win0_16.rect t)).emb y : S4096x1024.Idx)
    = ix2 ⟨t.val * 128 + (y 0).val, by have := (y 0).isLt; change (y 0).val < 128 at this; have := tlt t; omega⟩ (y 1) := by
  blk_ext [iblk, V, idx t]

/-- The up-projection's weights as the result array. -/
def Up (W : FVec Ideal S1x1024x4096 .f32) : FVec Ideal S1024x4096 .bf16 := fun i => W (ix3 0 (i 0) (i 1))

/-- The down-projection's weights as the result array. -/
def Down (W : FVec Ideal S1x4096x1024 .f32) : FVec Ideal S4096x1024 .bf16 := fun i => W (ix3 0 (i 0) (i 1))

theorem pay15_at (v : Vec Ideal S32x4096 .f32) (r : Fin 32) (k : Fin 4096) : k0_pay31 (F := Ideal) v (ix2 r k) = v (ix2 r k) := by
  pointwise [k0_pay31]

theorem pay16_at (v : Vec Ideal S128x1024 .f32) (r : Fin 128) (k : Fin 1024) : k0_pay32 (F := Ideal) v (ix2 r k) = v (ix2 r k) := by
  pointwise [k0_pay32]

theorem up_final (c : Dev nD) : (dats m 0 c).arrAt 15 cfg0.N = Up (m ((c : Thread nD τ).loc main_arg12)) := by
  refine (dats m 0 c).arrAt_eq_of_covers 15 _ (by decide +kernel) fun t _ y => ?_
  blk_simp
  rw [after0_15, emb15]
  idx_vars y
  by_cases h1 : t.val % 2 = 0
  · by_cases h0 : t.val % 32 = 0
    · rw [outsAt0_A m c t h0 h1]
      dsimp only
      unfold out0_A_15
      frame_out
      rw [pay15_at, up_block]
      rfl
    · rw [outsAt0_C m c t h0 h1]
      dsimp only
      unfold out0_C_15
      frame_out
      rw [pay15_at, up_block]
      rfl
  · rw [outsAt0_B m c t (fun h => h1 (by omega)) h1]
    dsimp only
    unfold out0_B_15
    frame_out
    rw [pay15_at, up_block]
    rfl

theorem down_final (c : Dev nD) : (dats m 0 c).arrAt 16 cfg0.N = Down (m ((c : Thread nD τ).loc main_arg13)) := by
  refine (dats m 0 c).arrAt_eq_of_covers 16 _ (by decide +kernel) fun t _ y => ?_
  blk_simp
  rw [after0_16, emb16]
  idx_vars y
  by_cases h1 : t.val % 2 = 0
  · by_cases h0 : t.val % 32 = 0
    · rw [outsAt0_A m c t h0 h1]
      dsimp only
      unfold out0_A_16
      frame_out
      rw [pay16_at, down_block]
      rfl
    · rw [outsAt0_C m c t h0 h1]
      dsimp only
      unfold out0_C_16
      frame_out
      rw [pay16_at, down_block]
      rfl
  · rw [outsAt0_B m c t (fun h => h1 (by omega)) h1]
    dsimp only
    unfold out0_B_16
    frame_out
    rw [pay16_at, down_block]
    rfl

/-- The side conditions of the mask's operations. -/
theorem maskFacts : Cert.On_weights.Facts where
  bcast_S_S16x2048x1024 := by decide
  bcast_S_S1024x4096 := by decide
  bcast_S_S4096x1024 := by decide

/-- The two programs of the token mixer end with equal second and third results. -/
theorem algebraic : Cert.algebraic_KernelIdeal_ReferenceIdeal_on_weights (hKernelIdeal := Cert.KernelIdeal.Gen.facts)
    (hReferenceIdeal := Cert.ReferenceIdeal.Gen.facts) (hOn_weights := maskFacts) := fun m g m' g' _ hag =>
  ⟨fun c => Cert.KernelIdeal.Value.G14 m c, fun c => Up (m ((c.tc : Thread Cert.KernelIdeal.nD Cert.KernelIdeal.τ).loc Cert.KernelIdeal.main_arg12)),
    fun c => Down (m ((c.tc : Thread Cert.KernelIdeal.nD Cert.KernelIdeal.τ).loc Cert.KernelIdeal.main_arg13)),
    (θ_run _ _ _).mono (fun _ h c => ⟨fun i hi => absurd (show (0#1 : BitVec 1) = 1#1 from hi) (by decide), fun i _ => congrFun ((h c).2.1.trans (up_final m c)) i,
      fun i _ => congrFun ((h c).2.2.1.trans (down_final m c)) i, (h c).2.2.2⟩) (Cert.KernelIdeal.Value.run_blocks m g),
    (θ_run _ _ _).mono (fun _ h c => ⟨fun i hi => absurd (show (0#1 : BitVec 1) = 1#1 from hi) (by decide),
      fun i _ => (congrFun (h c).2.1 i).trans (by
        obtain ⟨_, _, _, _, _, _, _, _, _, _, _, _, h12, _⟩ := hag c
        rw [StableHlo.launchContents_devRef, h12]
        idx_vars i
        unfold Up
        pointwise),
      fun i _ => (congrFun (h c).2.2.1 i).trans (by
        obtain ⟨_, _, _, _, _, _, _, _, _, _, _, _, _, h13⟩ := hag c
        rw [StableHlo.launchContents_devRef, h13]
        idx_vars i
        unfold Down
        pointwise), (h c).2.2.2⟩)
      (Cert.ReferenceIdeal.Value.run m' g')⟩

end Cert.KernelIdeal.Weights

end
-- ==== Proof.AdalnValue.lean ====
/-
  The modulation vectors: the kernel splits the activated conditioning and the weights each in a leading part and a
  remainder; over the reals the remainders are zero where the numbers are finite, so one product is left, the reference's.
-/
module

public import proofs.«01_k».proof.Proof.Gen.AdalnIdeal.Value
public import proofs.«01_k».proof.Proof.Gen.AdalnRefIdeal.Read
public import proofs.«01_k».proof.Proof.Gen.AdalnRefIdeal.Run
public import proofs.«01_k».proof.Defs
public import Idealize.ShloMosaic.Lib.Pointwise
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.AdalnPure

/-- The activation `c / (1 + exp (-c))`. -/
def act (c : EReal) : EReal := c * Ideal.div 1 (1 + Ideal.exp (-c))

/-- One modulation number from a row of the conditioning, a column of the weights and a bias. -/
def out (c w : Fin 1024 → EReal) (b : EReal) : EReal := ∑ k, act (c k) * w k + b

/-- The same number as the kernel adds it up: the product of the leading parts, then those of the remainders. -/
def outSplit (c w : Fin 1024 → EReal) (b : EReal) : EReal :=
  ∑ k, act (c k) * w k + (∑ k, (act (c k) - act (c k)) * w k + ∑ k, act (c k) * (w k - w k)) + b

/-- The activation of a finite number is finite. -/
theorem act_real (x : ℝ) : ∃ y : ℝ, act (x : EReal) = y := by
  refine ⟨x * (1 * (1 / (1 + Real.exp (-x)))), ?_⟩
  have h : 1 + Real.exp (-x) ≠ 0 := by positivity
  unfold act
  rw [← EReal.coe_neg, Ideal.exp_coe, ← EReal.coe_one, ← EReal.coe_add, Ideal.div_coe h, ← EReal.coe_mul, ← EReal.coe_mul]

/-- With finite numbers the remainders are zero, and one product is left. -/
theorem outSplit_eq (c w : Fin 1024 → EReal) (b : EReal) (hc : ∀ k, ∃ x : ℝ, c k = x) (hw : ∀ k, ∃ x : ℝ, w k = x) :
    outSplit c w b = out c w b := by
  have h1 : ∀ k, (act (c k) - act (c k)) * w k = 0 := fun k => by
    obtain ⟨x, hx⟩ := hc k
    obtain ⟨y, hy⟩ := act_real x
    rw [hx, hy, EReal.sub_self (EReal.coe_ne_top y) (EReal.coe_ne_bot y), zero_mul]
  have h2 : ∀ k, act (c k) * (w k - w k) = 0 := fun k => by
    obtain ⟨y, hy⟩ := hw k
    rw [hy, EReal.sub_self (EReal.coe_ne_top y) (EReal.coe_ne_bot y), mul_zero]
  simp only [outSplit, out, h1, h2, Finset.sum_const_zero, add_zero]

/-- A number whose absolute value is below infinity is a real number. -/
theorem real_of_lt (x : EReal) (h : Ideal.cmp .olt (max x (-x)) (Ideal.ofBits .f32 0x7F800000#32) = 1#1) :
    ∃ y : ℝ, x = y := by
  have htop : Ideal.ofBits .f32 0x7F800000#32 = ⊤ := by simp [Ideal.ofBits, Ideal.ieee]
  rw [htop] at h
  unfold Ideal.cmp at h
  induction x using EReal.rec with
  | bot => simp at h
  | coe y => exact ⟨y, rfl⟩
  | top => simp at h

end Cert.AdalnPure

namespace Cert.AdalnIdeal.Whole

open Cert.AdalnIdeal Cert.AdalnIdeal.Gen Cert.AdalnPure

theorem pay_at (v0 : Vec Ideal S16x1024 .f32) (v13 : Vec Ideal S1024x1024 .f32) (v26 : Vec Ideal S1x1024 .f32)
    (r : Fin 16) (j : Fin 1024) :
    k0_pay1 (F := Ideal) v0 v13 v26 (ix2 r j)
      = outSplit (fun k => v0 (ix2 r k)) (fun k => v13 (ix2 k j)) (v26 (ix2 0 j)) := by
  pointwise [k0_pay1, outSplit, act]
  simp only [zero_sub]

variable (m : (ℓ : Loc nD τ sig) → Buf (Elt Ideal) ℓ)

theorem idx : ∀ t : Fin cfg0.N, win0_0.index t = ![0, 0] ∧ win0_1.index t = ![0, t.val] ∧ win0_2.index t = ![0, t.val]
    ∧ win0_3.index t = ![0, t.val] ∧ t.val < 6 :=
  (by decide +kernel : ∀ t : Fin grid0.N, _)

theorem tlt (t : Fin cfg0.N) : t.val < 6 := (idx t).2.2.2.2

theorem rd0 (c : Dev nD) (t : Fin cfg0.N) (r : Fin 16) (k : Fin 1024) : (iblk m c 0 t : FVec Ideal S16x1024 .f32) (ix2 r k)
    = (m ((c : Thread nD τ).loc main_arg0) : FVec Ideal S16x1024 .f32) (ix2 r k) := by
  blk_ext [iblk, V, idx t]

theorem rd1 (c : Dev nD) (t : Fin cfg0.N) (k j : Fin 1024) : (iblk m c 1 t : FVec Ideal S1024x1024 .f32) (ix2 k j)
    = (m ((c : Thread nD τ).loc main_arg1) : FVec Ideal S1x1024x6144 .f32)
        (ix3 0 k ⟨t.val * 1024 + j, by have := tlt t; omega⟩) := by
  blk_simp [iblk]
  entry_read
  pointwise
  blk_ext [idx t]

theorem rd2 (c : Dev nD) (t : Fin cfg0.N) (j : Fin 1024) : (iblk m c 2 t : FVec Ideal S1x1024 .f32) (ix2 0 j)
    = (m ((c : Thread nD τ).loc main_arg2) : FVec Ideal S1x6144 .f32) (ix2 0 ⟨t.val * 1024 + j, by have := tlt t; omega⟩) := by
  blk_simp [iblk]
  entry_read
  pointwise
  blk_ext [idx t]

theorem emb3 (t : Fin cfg0.N) (y : S16x1024.Idx) : (((View.whole main_v3).slice (win0_3.rect t)).emb y : S16x6144.Idx)
    = ix2 (y 0) ⟨t.val * 1024 + (y 1).val, by have := (y 1).isLt; change (y 1).val < 1024 at this; have := tlt t; omega⟩ := by
  blk_ext [iblk, V, idx t]

/-- The result array as one function of the arguments. -/
def G (C : FVec Ideal S16x1024 .f32) (W : FVec Ideal S1x1024x6144 .f32) (B : FVec Ideal S1x6144 .f32) :
    FVec Ideal S16x6144 .f32 := fun i =>
  outSplit (fun k => C (ix2 (i 0) k)) (fun k => W (ix3 0 k (i 1))) (B (ix2 0 (i 1)))

theorem final (c : Dev nD) : (dats m 0 c).arrAt 3 cfg0.N
    = G (m ((c : Thread nD τ).loc main_arg0)) (m ((c : Thread nD τ).loc main_arg1)) (m ((c : Thread nD τ).loc main_arg2)) := by
  refine (dats m 0 c).arrAt_eq_of_covers 3 _ (by decide +kernel) fun t _ y => ?_
  blk_simp
  rw [after0_3]
  unfold out0_3
  frame_out
  rw [emb3]
  idx_vars y
  rw [pay_at]
  simp only [rd0, rd1, rd2]
  rfl

end Cert.AdalnIdeal.Whole

namespace Cert.AdalnRefIdeal.Whole

open Cert.AdalnRefIdeal Cert.AdalnRefIdeal.Gen Cert.AdalnRefIdeal.Read Cert.AdalnPure

theorem out_at (x0 : FVec Ideal S16x1024 .f32) (x1 : FVec Ideal S1x1024x6144 .f32) (x2 : FVec Ideal S1x6144 .f32)
    (r : Fin 16) (j : Fin 6144) :
    val_main_v6 (F := Ideal) x0 x1 x2 (ix2 r j)
      = out (fun k => x0 (ix2 r k)) (fun k => x1 (ix3 0 k j)) (x2 (ix2 0 j)) := by
  pointwise [out, act, val_main_v6, val_main_v5, val_main_v4, val_main_v3, val_main_v2, val_main_v1, val_main_v0,
    val_main_call0_v5, val_main_call0_v4, val_main_call0_cst_0, val_main_call0_v3, val_main_call0_v2, val_main_call0_cst,
    val_main_call0_v1, val_main_call0_v0]

/-- With finite arguments the reference's result is the kernel's function of the arguments. -/
theorem out_eq (x0 : FVec Ideal S16x1024 .f32) (x1 : FVec Ideal S1x1024x6144 .f32) (x2 : FVec Ideal S1x6144 .f32)
    (h0 : ∀ i, ∃ x : ℝ, x0 i = (x : EReal)) (h1 : ∀ i, ∃ x : ℝ, x1 i = (x : EReal)) :
    val_main_v6 (F := Ideal) x0 x1 x2 = Cert.AdalnIdeal.Whole.G x0 x1 x2 := by
  funext i
  idx_vars i
  rw [out_at]
  exact (outSplit_eq _ _ _ (fun k => h0 _) (fun k => h1 _)).symm

end Cert.AdalnRefIdeal.Whole

namespace Cert.AdalnPure

/-- The side conditions of the precondition's operations. -/
theorem finiteFacts : Cert.Pre_finite.Facts where
  bcast_S_S16x1024 := Cert.AdalnRefIdeal.Gen.facts.bcast_S_S16x1024
  bcast_S_S1x1024x6144 := by decide

/-- The two programs of the modulation vectors end with equal results, where the conditioning and the weights are
    finite. -/
theorem algebraic : Cert.algebraic_AdalnIdeal_AdalnRefIdeal_pre_finite (hAdalnIdeal := Cert.AdalnIdeal.Gen.facts)
    (hAdalnRefIdeal := Cert.AdalnRefIdeal.Gen.facts) (hPre_finite := finiteFacts) := fun m g m' g' hpre hag =>
  ⟨fun c => Cert.AdalnIdeal.Whole.G (m ((c : Thread Cert.AdalnIdeal.nD Cert.AdalnIdeal.τ).loc Cert.AdalnIdeal.main_arg0))
      (m ((c : Thread Cert.AdalnIdeal.nD Cert.AdalnIdeal.τ).loc Cert.AdalnIdeal.main_arg1))
      (m ((c : Thread Cert.AdalnIdeal.nD Cert.AdalnIdeal.τ).loc Cert.AdalnIdeal.main_arg2)),
    (θ_run _ _ _).mono (fun _ h c => ⟨(h c).1.trans (Cert.AdalnIdeal.Whole.final m c), (h c).2⟩)
      (Cert.AdalnIdeal.Value.run_blocks m g),
    (θ_run _ _ _).mono (fun _ h c => ⟨(h c).1.trans ((Cert.AdalnRefIdeal.Read.val_main_v6_eq _ _ _).trans
      (by
        rw [(hag c).1, (hag c).2.1, (hag c).2.2]
        exact Cert.AdalnRefIdeal.Whole.out_eq _ _ _ (fun i => real_of_lt _ (congrFun (hpre c).1 i))
          (fun i => real_of_lt _ (congrFun (hpre c).2 i)))), (h c).2⟩)
      (Cert.AdalnRefIdeal.Value.run m' g')⟩

end Cert.AdalnPure

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.Mlp
public import proofs.«01_k».proof.Proof.Gen.Mlp.Skeleton
public import proofs.«01_k».proof.Proof.Gen.Mlp.Launch
public import proofs.«01_k».proof.Proof.Gen.Mlp.Points
public import proofs.«01_k».proof.Proof.Gen.Mlp.Frame
public import proofs.«01_k».proof.Proof.Gen.MlpIdeal
public import proofs.«01_k».proof.Proof.Gen.MlpIdeal.Skeleton
public import proofs.«01_k».proof.Proof.Gen.MlpIdeal.Launch
public import proofs.«01_k».proof.Proof.Gen.MlpIdeal.Points
public import proofs.«01_k».proof.Proof.Gen.MlpIdeal.Frame
public import proofs.«01_k».proof.Proof.Gen.KernelIdeal.Value
public import proofs.«01_k».proof.Proof.Gen.MlpIdeal.Value
public import proofs.«01_k».proof.Proof.Gen.MlpRefIdeal
public import proofs.«01_k».proof.Proof.Gen.MlpRefIdeal.Run
public import proofs.«01_k».proof.Proof.Gen.MlpRefIdeal.Read
public import proofs.«01_k».proof.Proof.Gen.ReferenceIdeal
public import proofs.«01_k».proof.Proof.Gen.ReferenceIdeal.Run
public import proofs.«01_k».proof.Proof.Gen.Adaln
public import proofs.«01_k».proof.Proof.Gen.Adaln.Skeleton
public import proofs.«01_k».proof.Proof.Gen.Adaln.Launch
public import proofs.«01_k».proof.Proof.Gen.Adaln.Points
public import proofs.«01_k».proof.Proof.Gen.Adaln.Frame
public import proofs.«01_k».proof.Proof.Gen.AdalnIdeal
public import proofs.«01_k».proof.Proof.Gen.AdalnIdeal.Skeleton
public import proofs.«01_k».proof.Proof.Gen.AdalnIdeal.Launch
public import proofs.«01_k».proof.Proof.Gen.AdalnIdeal.Points
public import proofs.«01_k».proof.Proof.Gen.AdalnIdeal.Frame
public import proofs.«01_k».proof.Proof.Gen.AdalnIdeal.Value
public import proofs.«01_k».proof.Proof.Gen.AdalnRefIdeal
public import proofs.«01_k».proof.Proof.Gen.AdalnRefIdeal.Run
public import proofs.«01_k».proof.Proof.Gen.AdalnRefIdeal.Read
public import proofs.«01_k».proof.Proof.MlpRead
public import proofs.«01_k».proof.Proof.MixWeights
public import proofs.«01_k».proof.Proof.AdalnValue
public import Idealize.ShloMosaic.Adequacy
public import Idealize.ShloMosaic.Init
public import Idealize.ShloMosaic.Lib.Quiescent

@[expose] public section

noncomputable section

namespace Cert.Proof

open Idealize.ShloMosaic Idealize.SL.Sem Cert.Kernel

/-- The mixer's reference ends, with its arguments as they were; it has no semaphore. -/
theorem frame_reference : Cert.quiescent_ReferenceIdeal (hReferenceIdeal := Cert.ReferenceIdeal.Gen.facts) := fun m ρ _ =>
  (θ_run Cert.ReferenceIdeal.defs _ _).mono (fun r h => ⟨fun c => (h c).2.2.2,
      Idealize.ShloMosaic.sem_eq_zero_of_no_sems (by decide) r.2⟩)
    (Cert.ReferenceIdeal.Value.run (F := Ideal) m ρ)

/-- The channel MLP's reference ends, with its arguments as they were; it has no semaphore. -/
theorem frame_mlpRef : Cert.quiescent_MlpRefIdeal (hMlpRefIdeal := Cert.MlpRefIdeal.Gen.facts) := fun m ρ _ =>
  (θ_run Cert.MlpRefIdeal.defs _ _).mono (fun r h => ⟨fun c => (h c).2,
      Idealize.ShloMosaic.sem_eq_zero_of_no_sems (by decide) r.2⟩)
    (Cert.MlpRefIdeal.Value.run (F := Ideal) m ρ)

/-- The modulation's reference ends, with its arguments as they were; it has no semaphore. -/
theorem frame_adalnRef : Cert.quiescent_AdalnRefIdeal (hAdalnRefIdeal := Cert.AdalnRefIdeal.Gen.facts) := fun m ρ _ =>
  (θ_run Cert.AdalnRefIdeal.defs _ _).mono (fun r h => ⟨fun c => (h c).2,
      Idealize.ShloMosaic.sem_eq_zero_of_no_sems (by decide) r.2⟩)
    (Cert.AdalnRefIdeal.Value.run (F := Ideal) m ρ)

theorem claim : Cert.Claim :=
  ⟨Cert.Kernel.Gen.facts, Cert.KernelIdeal.Gen.facts, Cert.ReferenceIdeal.Gen.facts, Cert.Mlp.Gen.facts,
    Cert.MlpIdeal.Gen.facts, Cert.MlpRefIdeal.Gen.facts, Cert.Adaln.Gen.facts, Cert.AdalnIdeal.Gen.facts,
    Cert.AdalnRefIdeal.Gen.facts, Cert.AdalnPure.finiteFacts, Cert.KernelIdeal.Weights.maskFacts,
    fun m ρ _ => Cert.Kernel.Gen.frame m ρ, fun m ρ _ => Cert.KernelIdeal.Gen.frame m ρ, frame_reference,
    fun m ρ _ => Cert.Mlp.Gen.frame m ρ, fun m ρ _ => Cert.MlpIdeal.Gen.frame m ρ, frame_mlpRef,
    fun m ρ _ => Cert.Adaln.Gen.frame m ρ, fun m ρ _ => Cert.AdalnIdeal.Gen.frame m ρ,
    fun m ρ _ => Cert.AdalnIdeal.Gen.frame m ρ, frame_adalnRef, fun m ρ _ => frame_adalnRef m ρ trivial,
    trivial, Cert.KernelIdeal.Weights.algebraic, trivial, Cert.MlpPure.algebraic, trivial, Cert.AdalnPure.algebraic⟩

end Cert.Proof

end
